-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)) (v3 : (c : Dev Cert.Kernel3Ideal.nD) → Buf (Elt Ideal) ((c.tc : Thread Cert.Kernel3Ideal.nD Cert.Kernel3Ideal.τ).loc Cert.Kernel3Ideal.main_v15_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_v15_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v62) = v0 c
          ∧ r.2.mem ((c.tc : Thread Cert.Reference3Ideal.nD Cert.Reference3Ideal.τ).loc Cert.Reference3Ideal.main_v63) = v1 c
          ∧ r.2.mem ((c.tc : Thread Cert.Reference3Ideal.nD Cert.Reference3Ideal.τ).loc Cert.Reference3Ideal.main_v64) = v2 c
          ∧ r.2.mem ((c.tc : Thread Cert.Reference3Ideal.nD Cert.Reference3Ideal.τ).loc Cert.Reference3Ideal.main_v65) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S2x16384x1024 : Shape := ⟨3, ![2, 16384, 1024]⟩
abbrev S65536x512 : Shape := ⟨2, ![65536, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x1024 : Shape := ⟨2, ![1024, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32768x1024 : Shape := ⟨2, ![32768, 1024]⟩
abbrev S8x1024 : Shape := ⟨2, ![8, 1024]⟩
abbrev S16x512 : Shape := ⟨2, ![16, 512]⟩
abbrev S1024x512 : Shape := ⟨2, ![1024, 512]⟩
abbrev S512x1024 : Shape := ⟨2, ![512, 1024]⟩
abbrev S1024x2816 : Shape := ⟨2, ![1024, 2816]⟩
abbrev S1040x1024 : Shape := ⟨2, ![1040, 1024]⟩
abbrev S8x512 : Shape := ⟨2, ![8, 512]⟩
abbrev S1040x512 : Shape := ⟨2, ![1040, 512]⟩
abbrev S272x1024 : Shape := ⟨2, ![272, 1024]⟩
abbrev S272x512 : Shape := ⟨2, ![272, 512]⟩
abbrev S256x1024 : Shape := ⟨2, ![256, 1024]⟩
abbrev S256x512 : Shape := ⟨2, ![256, 512]⟩
abbrev S1040 : Shape := ⟨1, ![1040]⟩
abbrev S1040x1 : Shape := ⟨2, ![1040, 1]⟩
abbrev S1040x2816 : Shape := ⟨2, ![1040, 2816]⟩
abbrev S256x2816 : Shape := ⟨2, ![256, 2816]⟩
abbrev S256 : Shape := ⟨1, ![256]⟩
abbrev S256x1 : Shape := ⟨2, ![256, 1]⟩

abbrev nBuf : Space → Nat
  | .hbm => 26
  | .vmem => 29
  | .smem => 0
  | _ => 0

abbrev bufTy : (tb : Table) → Fin (tcTables nBuf tb) → BufTy
  | .hbm, ⟨0, _⟩ => ⟨S2x16384x1024, .f32⟩
  | .hbm, ⟨1, _⟩ => ⟨S65536x512, .f32⟩
  | .hbm, ⟨2, _⟩ => ⟨S65536x512, .f32⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x3x2816, .f32⟩
  | .hbm, ⟨7, _⟩ => ⟨S1x2816, .f32⟩
  | .hbm, ⟨8, _⟩ => ⟨S1x2816x1024, .f32⟩
  | .hbm, ⟨9, _⟩ => ⟨S1024, .f32⟩
  | .hbm, ⟨10, _⟩ => ⟨S1024x1024, .f32⟩
  | .hbm, ⟨11, _⟩ => ⟨S1024x1024, .bf16⟩
  | .hbm, ⟨12, _⟩ => ⟨S1024, .f32⟩
  | .hbm, ⟨13, _⟩ => ⟨S1x1024, .f32⟩
  | .hbm, ⟨14, _⟩ => ⟨S1024x5632, .f32⟩
  | .hbm, ⟨15, _⟩ => ⟨S1024x5632, .bf16⟩
  | .hbm, ⟨16, _⟩ => ⟨S3x2816, .f32⟩
  | .hbm, ⟨17, _⟩ => ⟨S2816, .f32⟩
  | .hbm, ⟨18, _⟩ => ⟨S1x2816, .f32⟩
  | .hbm, ⟨19, _⟩ => ⟨S2816x1024, .f32⟩
  | .hbm, ⟨20, _⟩ => ⟨S2816x1024, .bf16⟩
  | .hbm, ⟨21, _⟩ => ⟨S1x1024, .f32⟩
  | .hbm, ⟨22, _⟩ => ⟨S32768x1024, .f32⟩
  | .hbm, ⟨23, _⟩ => ⟨S65536x512, .bf16⟩
  | .hbm, ⟨24, _⟩ => ⟨S65536x512, .bf16⟩
  | .hbm, ⟨25, _⟩ => ⟨S32768x1024, .f32⟩
  | .local _ .vmem, ⟨0, _⟩ => ⟨S8x1024, .f32⟩
  | .local _ .vmem, ⟨1, _⟩ => ⟨S8x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S8x1024, .f32⟩
  | .local _ .vmem, ⟨6, _⟩ => ⟨S16x512, .bf16⟩
  | .local _ .vmem, ⟨7, _⟩ => ⟨S16x512, .bf16⟩
  | .local _ .vmem, ⟨8, _⟩ => ⟨S1024x512, .bf16⟩
  | .local _ .vmem, ⟨9, _⟩ => ⟨S1024x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S1024x512, .bf16⟩
  | .local _ .vmem, ⟨15, _⟩ => ⟨S1024x512, .bf16⟩
  | .local _ .vmem, ⟨16, _⟩ => ⟨S16x512, .bf16⟩
  | .local _ .vmem, ⟨17, _⟩ => ⟨S16x512, .bf16⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1024x2816, .bf16⟩
  | .local _ .vmem, ⟨22, _⟩ => ⟨S1024x2816, .bf16⟩
  | .local _ .vmem, ⟨23, _⟩ => ⟨S3x2816, .f32⟩
  | .local _ .vmem, ⟨24, _⟩ => ⟨S1x2816, .f32⟩
  | .local _ .vmem, ⟨25, _⟩ => ⟨S2816x1024, .bf16⟩
  | .local _ .vmem, ⟨26, _⟩ => ⟨S1x1024, .f32⟩
  | .local _ .vmem, ⟨27, _⟩ => ⟨S1024x1024, .f32⟩
  | .local _ .vmem, ⟨28, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c128_i32 : BitVec 32 := 128#32
  let v1 : BitVec 32 := Scalar.muli v0 c128_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.addi v0 c1_i32
  let c128_i32 : BitVec 32 := 128#32
  let v2 : BitVec 32 := Scalar.muli v1 c128_i32
  let c4095_i32 : BitVec 32 := 4095#32
  let v3 : BitVec 32 := Scalar.minsi v2 c4095_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c64_i32 : BitVec 32 := 64#32
  let v1 : BitVec 32 := Scalar.muli v0 c64_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.addi v0 c1_i32
  let c64_i32 : BitVec 32 := 64#32
  let v2 : BitVec 32 := Scalar.muli v1 c64_i32
  let c4095_i32 : BitVec 32 := 4095#32
  let v3 : BitVec 32 := Scalar.minsi v2 c4095_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c64_i32 : BitVec 32 := 64#32
  let v1 : BitVec 32 := Scalar.muli v0 c64_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.addi v0 c1_i32
  let c64_i32 : BitVec 32 := 64#32
  let v2 : BitVec 32 := Scalar.muli v1 c64_i32
  let c4095_i32 : BitVec 32 := 4095#32
  let v3 : BitVec 32 := Scalar.minsi v2 c4095_i32
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x2816 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1024x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S2x16384x1024 : Shape := ⟨3, ![2, 16384, 1024]⟩
abbrev S65536x512 : Shape := ⟨2, ![65536, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S32768x512 : Shape := ⟨2, ![32768, 512]⟩
abbrev S32768x1024 : Shape := ⟨2, ![32768, 1024]⟩
abbrev S1024x1024 : Shape := ⟨2, ![1024, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S2x16384x5632 : Shape := ⟨3, ![2, 16384, 5632]⟩
abbrev S2x16384x2816 : Shape := ⟨3, ![2, 16384, 2816]⟩
abbrev S2x16386x2816 : Shape := ⟨3, ![2, 16386, 2816]⟩
abbrev S1x1x2816 : Shape := ⟨3, ![1, 1, 2816]⟩

abbrev nBuf : Space → Nat
  | .hbm => 96
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S65536x512, .f32⟩
  | .hbm, ⟨2, _⟩ => ⟨S65536x512, .f32⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x3x2816, .f32⟩
  | .hbm, ⟨7, _⟩ => ⟨S1x2816, .f32⟩
  | .hbm, ⟨8, _⟩ => ⟨S1x2816x1024, .f32⟩
  | .hbm, ⟨9, _⟩ => ⟨S1024, .f32⟩
  | .hbm, ⟨10, _⟩ => ⟨S32768x512, .f32⟩
  | .hbm, ⟨11, _⟩ => ⟨S32768x512, .f32⟩
  | .hbm, ⟨12, _⟩ => ⟨S32768x1024, .f32⟩
  | .hbm, ⟨13, _⟩ => ⟨S2x16384x1024, .f32⟩
  | .hbm, ⟨14, _⟩ => ⟨S1024x1024, .f32⟩
  | .hbm, ⟨15, _⟩ => ⟨S2x16384x1024, .f32⟩
  | .hbm, ⟨16, _⟩ => ⟨S2x16384x1024, .f32⟩
  | .hbm, ⟨17, _⟩ => ⟨S1024, .f32⟩
  | .hbm, ⟨18, _⟩ => ⟨S2x16384x1024, .f32⟩
  | .hbm, ⟨19, _⟩ => ⟨S_, .f32⟩
  | .hbm, ⟨20, _⟩ => ⟨S2x16384, .f32⟩
  | .hbm, ⟨21, _⟩ => ⟨S2x16384x1, .f32⟩
  | .hbm, ⟨22, _⟩ => ⟨S_, .f32⟩
  | .hbm, ⟨23, _⟩ => ⟨S2x16384x1, .f32⟩
  | .hbm, ⟨24, _⟩ => ⟨S2x16384x1, .f32⟩
  | .hbm, ⟨25, _⟩ => ⟨S_, .f32⟩
  | .hbm, ⟨26, _⟩ => ⟨S2x16384x1, .f32⟩
  | .hbm, ⟨27, _⟩ => ⟨S2x16384x1, .f32⟩
  | .hbm, ⟨28, _⟩ => ⟨S2x16384x1, .f32⟩
  | .hbm, ⟨29, _⟩ => ⟨S2x16384x1024, .f32⟩
  | .hbm, ⟨30, _⟩ => ⟨S2x16384x1024, .f32⟩
  | .hbm, ⟨31, _⟩ => ⟨S1x1x1024, .f32⟩
  | .hbm, ⟨32, _⟩ => ⟨S2x16384x1024, .f32⟩
  | .hbm, ⟨33, _⟩ => ⟨S2x16384x1024, .f32⟩
  | .hbm, ⟨34, _⟩ => ⟨S1024x5632, .f32⟩
  | .hbm, ⟨35, _⟩ => ⟨S3x2816, .f32⟩
  | .hbm, ⟨36, _⟩ => ⟨S2816, .f32⟩
  | .hbm, ⟨37, _⟩ => ⟨S2816x1024, .f32⟩
  | .hbm, ⟨38, _⟩ => ⟨S2x16384x5632, .f32⟩
  | .hbm, ⟨39, _⟩ => ⟨S2x16384x2816, .f32⟩
  | .hbm, ⟨40, _⟩ => ⟨S2x16384x2816, .f32⟩
  | .hbm, ⟨41, _⟩ => ⟨S_, .i32⟩
  | .hbm, ⟨42, _⟩ => ⟨S_, .f32⟩
  | .hbm, ⟨43, _⟩ => ⟨S2x16386x2816, .f32⟩
  | .hbm, ⟨44, _⟩ => ⟨S2x16384x2816, .f32⟩
  | .hbm, ⟨45, _⟩ => ⟨S1x2816, .f32⟩
  | .hbm, ⟨46, _⟩ => ⟨S2816, .f32⟩
  | .hbm, ⟨47, _⟩ => ⟨S1x1x2816, .f32⟩
  | .hbm, ⟨48, _⟩ => ⟨S2x16384x2816, .f32⟩
  | .hbm, ⟨49, _⟩ => ⟨S2x16384x2816, .f32⟩
  | .hbm, ⟨50, _⟩ => ⟨S2x16384x2816, .f32⟩
  | .hbm, ⟨51, _⟩ => ⟨S1x2816, .f32⟩
  | .hbm, ⟨52, _⟩ => ⟨S2816, .f32⟩
  | .hbm, ⟨53, _⟩ => ⟨S1x1x2816, .f32⟩
  | .hbm, ⟨54, _⟩ => ⟨S2x16384x2816, .f32⟩
  | .hbm, ⟨55, _⟩ => ⟨S2x16384x2816, .f32⟩
  | .hbm, ⟨56, _⟩ => ⟨S2x16384x2816, .f32⟩
  | .hbm, ⟨57, _⟩ => ⟨S2x16384x2816, .f32⟩
  | .hbm, ⟨58, _⟩ => ⟨S1x2816, .f32⟩
  | .hbm, ⟨59, _⟩ => ⟨S2816, .f32⟩
  | .hbm, ⟨60, _⟩ => ⟨S1x1x2816, .f32⟩
  | .hbm, ⟨61, _⟩ => ⟨S2x16384x2816, .f32⟩
  | .hbm, ⟨62, _⟩ => ⟨S2x16384x2816, .f32⟩
  | .hbm, ⟨63, _⟩ => ⟨S2x16384x2816, .f32⟩
  | .hbm, ⟨64, _⟩ => ⟨S1x1x2816, .f32⟩
  | .hbm, ⟨65, _⟩ => ⟨S2x16384x2816, .f32⟩
  | .hbm, ⟨66, _⟩ => ⟨S2x16384x2816, .f32⟩
  | .hbm, ⟨67, _⟩ => ⟨S_, .f32⟩
  | .hbm, ⟨68, _⟩ => ⟨S2x16384x2816, .f32⟩
  | .hbm, ⟨69, _⟩ => ⟨S2x16384x2816, .f32⟩
  | .hbm, ⟨70, _⟩ => ⟨S2x16384x2816, .f32⟩
  | .hbm, ⟨71, _⟩ => ⟨S_, .f32⟩
  | .hbm, ⟨72, _⟩ => ⟨S2x16384x2816, .f32⟩
  | .hbm, ⟨73, _⟩ => ⟨S2x16384x2816, .f32⟩
  | .hbm, ⟨74, _⟩ => ⟨S2x16384x2816, .f32⟩
  | .hbm, ⟨75, _⟩ => ⟨S2x16384x2816, .f32⟩
  | .hbm, ⟨76, _⟩ => ⟨S2x16384x2816, .f32⟩
  | .hbm, ⟨77, _⟩ => ⟨S2x16384x1024, .f32⟩
  | .hbm, ⟨78, _⟩ => ⟨S2x16384x1024, .f32⟩
  | .hbm, ⟨79, _⟩ => ⟨S2x16384x1024, .f32⟩
  | .hbm, ⟨80, _⟩ => ⟨S_, .f32⟩
  | .hbm, ⟨81, _⟩ => ⟨S2x16384, .f32⟩
  | .hbm, ⟨82, _⟩ => ⟨S2x16384x1, .f32⟩
  | .hbm, ⟨83, _⟩ => ⟨S_, .f32⟩
  | .hbm, ⟨84, _⟩ => ⟨S2x16384x1, .f32⟩
  | .hbm, ⟨85, _⟩ => ⟨S2x16384x1, .f32⟩
  | .hbm, ⟨86, _⟩ => ⟨S_, .f32⟩
  | .hbm, ⟨87, _⟩ => ⟨S2x16384x1, .f32⟩
  | .hbm, ⟨88, _⟩ => ⟨S2x16384x1, .f32⟩
  | .hbm, ⟨89, _⟩ => ⟨S2x16384x1, .f32⟩
  | .hbm, ⟨90, _⟩ => ⟨S2x16384x1024, .f32⟩
  | .hbm, ⟨91, _⟩ => ⟨S2x16384x1024, .f32⟩
  | .hbm, ⟨92, _⟩ => ⟨S1x1x1024, .f32⟩
  | .hbm, ⟨93, _⟩ => ⟨S2x16384x1024, .f32⟩
  | .hbm, ⟨94, _⟩ => ⟨S2x16384x1024, .f32⟩
  | .hbm, ⟨95, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_2 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_3 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_4 : Ref sig .tc := ⟨.hbm, 80, rfl⟩
abbrev main_v63 : Ref sig .tc := ⟨.hbm, 81, rfl⟩
abbrev main_v64 : Ref sig .tc := ⟨.hbm, 82, rfl⟩
abbrev main_cst_5 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩

abbrev nD : Nat := 1
abbrev τ : Topo := Topo.v7x

variable {F : FTy → Type} [FloatOps F]
-- ==== Kernel2.lean ====
abbrev S8x4096x1024 : Shape := ⟨3, ![8, 4096, 1024]⟩
abbrev S65536x512 : Shape := ⟨2, ![65536, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x1024 : Shape := ⟨2, ![1024, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32768x1024 : Shape := ⟨2, ![32768, 1024]⟩
abbrev S8x1024 : Shape := ⟨2, ![8, 1024]⟩
abbrev S16x512 : Shape := ⟨2, ![16, 512]⟩
abbrev S1024x512 : Shape := ⟨2, ![1024, 512]⟩
abbrev S512x1024 : Shape := ⟨2, ![512, 1024]⟩
abbrev S1024x2816 : Shape := ⟨2, ![1024, 2816]⟩
abbrev S1040x1024 : Shape := ⟨2, ![1040, 1024]⟩
abbrev S8x512 : Shape := ⟨2, ![8, 512]⟩
abbrev S1040x512 : Shape := ⟨2, ![1040, 512]⟩
abbrev S272x1024 : Shape := ⟨2, ![272, 1024]⟩
abbrev S272x512 : Shape := ⟨2, ![272, 512]⟩
abbrev S256x1024 : Shape := ⟨2, ![256, 1024]⟩
abbrev S256x512 : Shape := ⟨2, ![256, 512]⟩
abbrev S1040 : Shape := ⟨1, ![1040]⟩
abbrev S1040x1 : Shape := ⟨2, ![1040, 1]⟩
abbrev S1040x2816 : Shape := ⟨2, ![1040, 2816]⟩
abbrev S256x2816 : Shape := ⟨2, ![256, 2816]⟩
abbrev S256 : Shape := ⟨1, ![256]⟩
abbrev S256x1 : Shape := ⟨2, ![256, 1]⟩

abbrev nBuf : Space → Nat
  | .hbm => 26
  | .vmem => 29
  | .smem => 0
  | _ => 0

abbrev bufTy : (tb : Table) → Fin (tcTables nBuf tb) → BufTy
  | .hbm, ⟨0, _⟩ => ⟨S8x4096x1024, .f32⟩
  | .hbm, ⟨1, _⟩ => ⟨S65536x512, .f32⟩
  | .hbm, ⟨2, _⟩ => ⟨S65536x512, .f32⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x3x2816, .f32⟩
  | .hbm, ⟨7, _⟩ => ⟨S1x2816, .f32⟩
  | .hbm, ⟨8, _⟩ => ⟨S1x2816x1024, .f32⟩
  | .hbm, ⟨9, _⟩ => ⟨S1024, .f32⟩
  | .hbm, ⟨10, _⟩ => ⟨S1024x1024, .f32⟩
  | .hbm, ⟨11, _⟩ => ⟨S1024x1024, .bf16⟩
  | .hbm, ⟨12, _⟩ => ⟨S1024, .f32⟩
  | .hbm, ⟨13, _⟩ => ⟨S1x1024, .f32⟩
  | .hbm, ⟨14, _⟩ => ⟨S1024x5632, .f32⟩
  | .hbm, ⟨15, _⟩ => ⟨S1024x5632, .bf16⟩
  | .hbm, ⟨16, _⟩ => ⟨S3x2816, .f32⟩
  | .hbm, ⟨17, _⟩ => ⟨S2816, .f32⟩
  | .hbm, ⟨18, _⟩ => ⟨S1x2816, .f32⟩
  | .hbm, ⟨19, _⟩ => ⟨S2816x1024, .f32⟩
  | .hbm, ⟨20, _⟩ => ⟨S2816x1024, .bf16⟩
  | .hbm, ⟨21, _⟩ => ⟨S1x1024, .f32⟩
  | .hbm, ⟨22, _⟩ => ⟨S32768x1024, .f32⟩
  | .hbm, ⟨23, _⟩ => ⟨S65536x512, .bf16⟩
  | .hbm, ⟨24, _⟩ => ⟨S65536x512, .bf16⟩
  | .hbm, ⟨25, _⟩ => ⟨S32768x1024, .f32⟩
  | .local _ .vmem, ⟨0, _⟩ => ⟨S8x1024, .f32⟩
  | .local _ .vmem, ⟨1, _⟩ => ⟨S8x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S8x1024, .f32⟩
  | .local _ .vmem, ⟨6, _⟩ => ⟨S16x512, .bf16⟩
  | .local _ .vmem, ⟨7, _⟩ => ⟨S16x512, .bf16⟩
  | .local _ .vmem, ⟨8, _⟩ => ⟨S1024x512, .bf16⟩
  | .local _ .vmem, ⟨9, _⟩ => ⟨S1024x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S1024x512, .bf16⟩
  | .local _ .vmem, ⟨15, _⟩ => ⟨S1024x512, .bf16⟩
  | .local _ .vmem, ⟨16, _⟩ => ⟨S16x512, .bf16⟩
  | .local _ .vmem, ⟨17, _⟩ => ⟨S16x512, .bf16⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1024x2816, .bf16⟩
  | .local _ .vmem, ⟨22, _⟩ => ⟨S1024x2816, .bf16⟩
  | .local _ .vmem, ⟨23, _⟩ => ⟨S3x2816, .f32⟩
  | .local _ .vmem, ⟨24, _⟩ => ⟨S1x2816, .f32⟩
  | .local _ .vmem, ⟨25, _⟩ => ⟨S2816x1024, .bf16⟩
  | .local _ .vmem, ⟨26, _⟩ => ⟨S1x1024, .f32⟩
  | .local _ .vmem, ⟨27, _⟩ => ⟨S1024x1024, .f32⟩
  | .local _ .vmem, ⟨28, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c128_i32 : BitVec 32 := 128#32
  let v1 : BitVec 32 := Scalar.muli v0 c128_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.addi v0 c1_i32
  let c128_i32 : BitVec 32 := 128#32
  let v2 : BitVec 32 := Scalar.muli v1 c128_i32
  let c4095_i32 : BitVec 32 := 4095#32
  let v3 : BitVec 32 := Scalar.minsi v2 c4095_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.addi arg0 c32_i32
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.addi arg0 c32_i32
  let c1_i32 : BitVec 32 := 1#32
  let v1 : BitVec 32 := Scalar.addi v0 c1_i32
  let c64_i32 : BitVec 32 := 64#32
  let v2 : BitVec 32 := Scalar.muli v1 c64_i32
  let c4095_i32 : BitVec 32 := 4095#32
  let v3 : BitVec 32 := Scalar.minsi v2 c4095_i32
  let c0_i32 : BitVec 32 := 0#32
  let c0_i32_0 : BitVec 32 := 0#32
  ![v3.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.addi arg0 c32_i32
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c32_i32 : BitVec 32 := 32#32
  let v0 : BitVec 32 := Scalar.addi arg0 c32_i32
  let c1_i32 : BitVec 32 := 1#32
  let v1 : BitVec 32 := Scalar.addi v0 c1_i32
  let c64_i32 : BitVec 32 := 64#32
  let v2 : BitVec 32 := Scalar.muli v1 c64_i32
  let c4095_i32 : BitVec 32 := 4095#32
  let v3 : BitVec 32 := Scalar.minsi v2 c4095_i32
  let c0_i32 : BitVec 32 := 0#32
  let c0_i32_0 : BitVec 32 := 0#32
  ![v3.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x2816 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1024x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S8x4096x1024 : Shape := ⟨3, ![8, 4096, 1024]⟩
abbrev S65536x512 : Shape := ⟨2, ![65536, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S32768x512 : Shape := ⟨2, ![32768, 512]⟩
abbrev S32768x1024 : Shape := ⟨2, ![32768, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S8x4096x5632 : Shape := ⟨3, ![8, 4096, 5632]⟩
abbrev S8x4096x2816 : Shape := ⟨3, ![8, 4096, 2816]⟩
abbrev S8x4098x2816 : Shape := ⟨3, ![8, 4098, 2816]⟩
abbrev S1x1x2816 : Shape := ⟨3, ![1, 1, 2816]⟩

abbrev nBuf : Space → Nat
  | .hbm => 96
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S65536x512, .f32⟩
  | .hbm, ⟨2, _⟩ => ⟨S65536x512, .f32⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x3x2816, .f32⟩
  | .hbm, ⟨7, _⟩ => ⟨S1x2816, .f32⟩
  | .hbm, ⟨8, _⟩ => ⟨S1x2816x1024, .f32⟩
  | .hbm, ⟨9, _⟩ => ⟨S1024, .f32⟩
  | .hbm, ⟨10, _⟩ => ⟨S32768x512, .f32⟩
  | .hbm, ⟨11, _⟩ => ⟨S32768x512, .f32⟩
  | .hbm, ⟨12, _⟩ => ⟨S32768x1024, .f32⟩
  | .hbm, ⟨13, _⟩ => ⟨S8x4096x1024, .f32⟩
  | .hbm, ⟨14, _⟩ => ⟨S1024x1024, .f32⟩
  | .hbm, ⟨15, _⟩ => ⟨S8x4096x1024, .f32⟩
  | .hbm, ⟨16, _⟩ => ⟨S8x4096x1024, .f32⟩
  | .hbm, ⟨17, _⟩ => ⟨S1024, .f32⟩
  | .hbm, ⟨18, _⟩ => ⟨S8x4096x1024, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1, .f32⟩
  | .hbm, ⟨29, _⟩ => ⟨S8x4096x1024, .f32⟩
  | .hbm, ⟨30, _⟩ => ⟨S8x4096x1024, .f32⟩
  | .hbm, ⟨31, _⟩ => ⟨S1x1x1024, .f32⟩
  | .hbm, ⟨32, _⟩ => ⟨S8x4096x1024, .f32⟩
  | .hbm, ⟨33, _⟩ => ⟨S8x4096x1024, .f32⟩
  | .hbm, ⟨34, _⟩ => ⟨S1024x5632, .f32⟩
  | .hbm, ⟨35, _⟩ => ⟨S3x2816, .f32⟩
  | .hbm, ⟨36, _⟩ => ⟨S2816, .f32⟩
  | .hbm, ⟨37, _⟩ => ⟨S2816x1024, .f32⟩
  | .hbm, ⟨38, _⟩ => ⟨S8x4096x5632, .f32⟩
  | .hbm, ⟨39, _⟩ => ⟨S8x4096x2816, .f32⟩
  | .hbm, ⟨40, _⟩ => ⟨S8x4096x2816, .f32⟩
  | .hbm, ⟨41, _⟩ => ⟨S_, .i32⟩
  | .hbm, ⟨42, _⟩ => ⟨S_, .f32⟩
  | .hbm, ⟨43, _⟩ => ⟨S8x4098x2816, .f32⟩
  | .hbm, ⟨44, _⟩ => ⟨S8x4096x2816, .f32⟩
  | .hbm, ⟨45, _⟩ => ⟨S1x2816, .f32⟩
  | .hbm, ⟨46, _⟩ => ⟨S2816, .f32⟩
  | .hbm, ⟨47, _⟩ => ⟨S1x1x2816, .f32⟩
  | .hbm, ⟨48, _⟩ => ⟨S8x4096x2816, .f32⟩
  | .hbm, ⟨49, _⟩ => ⟨S8x4096x2816, .f32⟩
  | .hbm, ⟨50, _⟩ => ⟨S8x4096x2816, .f32⟩
  | .hbm, ⟨51, _⟩ => ⟨S1x2816, .f32⟩
  | .hbm, ⟨52, _⟩ => ⟨S2816, .f32⟩
  | .hbm, ⟨53, _⟩ => ⟨S1x1x2816, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S8x4096x2816, .f32⟩
  | .hbm, ⟨58, _⟩ => ⟨S1x2816, .f32⟩
  | .hbm, ⟨59, _⟩ => ⟨S2816, .f32⟩
  | .hbm, ⟨60, _⟩ => ⟨S1x1x2816, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S1x1x2816, .f32⟩
  | .hbm, ⟨65, _⟩ => ⟨S8x4096x2816, .f32⟩
  | .hbm, ⟨66, _⟩ => ⟨S8x4096x2816, .f32⟩
  | .hbm, ⟨67, _⟩ => ⟨S_, .f32⟩
  | .hbm, ⟨68, _⟩ => ⟨S8x4096x2816, .f32⟩
  | .hbm, ⟨69, _⟩ => ⟨S8x4096x2816, .f32⟩
  | .hbm, ⟨70, _⟩ => ⟨S8x4096x2816, .f32⟩
  | .hbm, ⟨71, _⟩ => ⟨S_, .f32⟩
  | .hbm, ⟨72, _⟩ => ⟨S8x4096x2816, .f32⟩
  | .hbm, ⟨73, _⟩ => ⟨S8x4096x2816, .f32⟩
  | .hbm, ⟨74, _⟩ => ⟨S8x4096x2816, .f32⟩
  | .hbm, ⟨75, _⟩ => ⟨S8x4096x2816, .f32⟩
  | .hbm, ⟨76, _⟩ => ⟨S8x4096x2816, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S_, .f32⟩
  | .hbm, ⟨81, _⟩ => ⟨S8x4096, .f32⟩
  | .hbm, ⟨82, _⟩ => ⟨S8x4096x1, .f32⟩
  | .hbm, ⟨83, _⟩ => ⟨S_, .f32⟩
  | .hbm, ⟨84, _⟩ => ⟨S8x4096x1, .f32⟩
  | .hbm, ⟨85, _⟩ => ⟨S8x4096x1, .f32⟩
  | .hbm, ⟨86, _⟩ => ⟨S_, .f32⟩
  | .hbm, ⟨87, _⟩ => ⟨S8x4096x1, .f32⟩
  | .hbm, ⟨88, _⟩ => ⟨S8x4096x1, .f32⟩
  | .hbm, ⟨89, _⟩ => ⟨S8x4096x1, .f32⟩
  | .hbm, ⟨90, _⟩ => ⟨S8x4096x1024, .f32⟩
  | .hbm, ⟨91, _⟩ => ⟨S8x4096x1024, .f32⟩
  | .hbm, ⟨92, _⟩ => ⟨S1x1x1024, .f32⟩
  | .hbm, ⟨93, _⟩ => ⟨S8x4096x1024, .f32⟩
  | .hbm, ⟨94, _⟩ => ⟨S8x4096x1024, .f32⟩
  | .hbm, ⟨95, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_2 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_3 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_4 : Ref sig .tc := ⟨.hbm, 80, rfl⟩
abbrev main_v63 : Ref sig .tc := ⟨.hbm, 81, rfl⟩
abbrev main_v64 : Ref sig .tc := ⟨.hbm, 82, rfl⟩
abbrev main_cst_5 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩

abbrev nD : Nat := 1
abbrev τ : Topo := Topo.v7x

variable {F : FTy → Type} [FloatOps F]
-- ==== Kernel3.lean ====
abbrev S2x16384x1024 : Shape := ⟨3, ![2, 16384, 1024]⟩
abbrev S8x4096x1024 : Shape := ⟨3, ![8, 4096, 1024]⟩
abbrev S1x1024 : Shape := ⟨2, ![1, 1024]⟩
abbrev S1x1024x2560 : Shape := ⟨3, ![1, 1024, 2560]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x2560 : Shape := ⟨2, ![1024, 2560]⟩
abbrev S512 : Shape := ⟨1, ![512]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S1024x1024 : Shape := ⟨2, ![1024, 1024]⟩
abbrev S1024x5632 : Shape := ⟨2, ![1024, 5632]⟩
abbrev S2816x1024 : Shape := ⟨2, ![2816, 1024]⟩
abbrev S32768x1024 : Shape := ⟨2, ![32768, 1024]⟩
abbrev S65536x512 : Shape := ⟨2, ![65536, 512]⟩
abbrev S16x1024 : Shape := ⟨2, ![16, 1024]⟩
abbrev S16x5632 : Shape := ⟨2, ![16, 5632]⟩
abbrev S64x1024 : Shape := ⟨2, ![64, 1024]⟩
abbrev S1024x512 : Shape := ⟨2, ![1024, 512]⟩
abbrev S1024x1 : Shape := ⟨2, ![1024, 1]⟩
abbrev S256x1024 : Shape := ⟨2, ![256, 1024]⟩
abbrev S256x2560 : Shape := ⟨2, ![256, 2560]⟩
abbrev S128x128 : Shape := ⟨2, ![128, 128]⟩
abbrev S1x128x128 : Shape := ⟨3, ![1, 128, 128]⟩

abbrev nBuf : Space → Nat
  | .hbm => 32
  | .vmem => 31
  | .smem => 0
  | _ => 0

abbrev bufTy : (tb : Table) → Fin (tcTables nBuf tb) → BufTy
  | .hbm, ⟨0, _⟩ => ⟨S2x16384x1024, .f32⟩
  | .hbm, ⟨1, _⟩ => ⟨S8x4096x1024, .f32⟩
  | .hbm, ⟨2, _⟩ => ⟨S1x1024, .f32⟩
  | .hbm, ⟨3, _⟩ => ⟨S1x1024x2560, .f32⟩
  | .hbm, ⟨4, _⟩ => ⟨S1x512, .f32⟩
  | .hbm, ⟨5, _⟩ => ⟨S1x8x128x128, .f32⟩
  | .hbm, ⟨6, _⟩ => ⟨S1x8x128, .f32⟩
  | .hbm, ⟨7, _⟩ => ⟨S1x1024x1024, .f32⟩
  | .hbm, ⟨8, _⟩ => ⟨S1x1024x5632, .f32⟩
  | .hbm, ⟨9, _⟩ => ⟨S1x2816x1024, .f32⟩
  | .hbm, ⟨10, _⟩ => ⟨S1024, .f32⟩
  | .hbm, ⟨11, _⟩ => ⟨S1x1024, .f32⟩
  | .hbm, ⟨12, _⟩ => ⟨S1024x2560, .f32⟩
  | .hbm, ⟨13, _⟩ => ⟨S512, .f32⟩
  | .hbm, ⟨14, _⟩ => ⟨S1x512, .f32⟩
  | .hbm, ⟨15, _⟩ => ⟨S8x128x128, .f32⟩
  | .hbm, ⟨16, _⟩ => ⟨S8x128, .f32⟩
  | .hbm, ⟨17, _⟩ => ⟨S128x8, .f32⟩
  | .hbm, ⟨18, _⟩ => ⟨S128x8x64, .f32⟩
  | .hbm, ⟨19, _⟩ => ⟨S128x512, .f32⟩
  | .hbm, ⟨20, _⟩ => ⟨S1024x1024, .f32⟩
  | .hbm, ⟨21, _⟩ => ⟨S1024x5632, .f32⟩
  | .hbm, ⟨22, _⟩ => ⟨S2816x1024, .f32⟩
  | .hbm, ⟨23, _⟩ => ⟨S32768x1024, .f32⟩
  | .hbm, ⟨24, _⟩ => ⟨S32768x1024, .f32⟩
  | .hbm, ⟨25, _⟩ => ⟨S65536x512, .bf16⟩
  | .hbm, ⟨26, _⟩ => ⟨S65536x512, .bf16⟩
  | .hbm, ⟨27, _⟩ => ⟨S65536x512, .bf16⟩
  | .hbm, ⟨28, _⟩ => ⟨S65536x512, .bf16⟩
  | .hbm, ⟨29, _⟩ => ⟨S1024x1024, .bf16⟩
  | .hbm, ⟨30, _⟩ => ⟨S1024x5632, .bf16⟩
  | .hbm, ⟨31, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x2560, .f32⟩
  | .local _ .vmem, ⟨6, _⟩ => ⟨S1x512, .f32⟩
  | .local _ .vmem, ⟨7, _⟩ => ⟨S8x128x128, .f32⟩
  | .local _ .vmem, ⟨8, _⟩ => ⟨S128x512, .f32⟩
  | .local _ .vmem, ⟨9, _⟩ => ⟨S16x1024, .f32⟩
  | .local _ .vmem, ⟨10, _⟩ => ⟨S16x1024, .f32⟩
  | .local _ .vmem, ⟨11, _⟩ => ⟨S16x5632, .f32⟩
  | .local _ .vmem, ⟨12, _⟩ => ⟨S16x5632, .f32⟩
  | .local _ .vmem, ⟨13, _⟩ => ⟨S64x1024, .f32⟩
  | .local _ .vmem, ⟨14, _⟩ => ⟨S64x1024, .f32⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S16x1024, .bf16⟩
  | .local _ .vmem, ⟨24, _⟩ => ⟨S16x1024, .bf16⟩
  | .local _ .vmem, ⟨25, _⟩ => ⟨S16x5632, .bf16⟩
  | .local _ .vmem, ⟨26, _⟩ => ⟨S16x5632, .bf16⟩
  | .local _ .vmem, ⟨27, _⟩ => ⟨S64x1024, .bf16⟩
  | .local _ .vmem, ⟨28, _⟩ => ⟨S64x1024, .bf16⟩
  | .local _ .vmem, ⟨29, _⟩ => ⟨S1024x2560, .bf16⟩
  | .local _ .vmem, ⟨30, _⟩ => ⟨S8x128x128, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev main_v15_4 : Ref sig .tc := ⟨.hbm, 29, rfl⟩
abbrev main_v15_5 : Ref sig .tc := ⟨.hbm, 30, rfl⟩
abbrev main_v15_6 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .sge arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c43_i32 : BitVec 32 := 43#32
  let v0 : BitVec 32 := Scalar.minsi arg0 c43_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c43_i32 : BitVec 32 := 43#32
  let v0 : BitVec 32 := Scalar.minsi arg0 c43_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S2x16384x1024 : Shape := ⟨3, ![2, 16384, 1024]⟩
abbrev S8x4096x1024 : Shape := ⟨3, ![8, 4096, 1024]⟩
abbrev S1x1024 : Shape := ⟨2, ![1, 1024]⟩
abbrev S1x1024x2560 : Shape := ⟨3, ![1, 1024, 2560]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S32768x1024 : Shape := ⟨2, ![32768, 1024]⟩
abbrev S65536x1024 : Shape := ⟨2, ![65536, 1024]⟩
abbrev S1024 : Shape := ⟨1, ![1024]⟩
abbrev S1024x2560 : Shape := ⟨2, ![1024, 2560]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S65536 : Shape := ⟨1, ![65536]⟩
abbrev S65536x1 : Shape := ⟨2, ![65536, 1]⟩
abbrev S65536x2560 : Shape := ⟨2, ![65536, 2560]⟩
abbrev S65536x512 : Shape := ⟨2, ![65536, 512]⟩
abbrev S65536x8x64 : Shape := ⟨3, ![65536, 8, 64]⟩
abbrev S512x128x8x64 : Shape := ⟨4, ![512, 128, 8, 64]⟩
abbrev S8x512x64x128 : Shape := ⟨4, ![8, 512, 64, 128]⟩
abbrev S128x8 : Shape := ⟨2, ![128, 8]⟩
abbrev S1x128x8x1 : Shape := ⟨4, ![1, 128, 8, 1]⟩

abbrev nBuf : Space → Nat
  | .hbm => 85
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S8x4096x1024, .f32⟩
  | .hbm, ⟨2, _⟩ => ⟨S1x1024, .f32⟩
  | .hbm, ⟨3, _⟩ => ⟨S1x1024x2560, .f32⟩
  | .hbm, ⟨4, _⟩ => ⟨S1x512, .f32⟩
  | .hbm, ⟨5, _⟩ => ⟨S1x8x128x128, .f32⟩
  | .hbm, ⟨6, _⟩ => ⟨S1x8x128, .f32⟩
  | .hbm, ⟨7, _⟩ => ⟨S1x1024x1024, .f32⟩
  | .hbm, ⟨8, _⟩ => ⟨S1x1024x5632, .f32⟩
  | .hbm, ⟨9, _⟩ => ⟨S1x2816x1024, .f32⟩
  | .hbm, ⟨10, _⟩ => ⟨S32768x1024, .f32⟩
  | .hbm, ⟨11, _⟩ => ⟨S32768x1024, .f32⟩
  | .hbm, ⟨12, _⟩ => ⟨S65536x1024, .f32⟩
  | .hbm, ⟨13, _⟩ => ⟨S1024, .f32⟩
  | .hbm, ⟨14, _⟩ => ⟨S1024x2560, .f32⟩
  | .hbm, ⟨15, _⟩ => ⟨S512, .f32⟩
  | .hbm, ⟨16, _⟩ => ⟨S8x128x128, .f32⟩
  | .hbm, ⟨17, _⟩ => ⟨S8x128, .f32⟩
  | .hbm, ⟨18, _⟩ => ⟨S65536x1024, .f32⟩
  | .hbm, ⟨19, _⟩ => ⟨S_, .f32⟩
  | .hbm, ⟨20, _⟩ => ⟨S65536, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S_, .f32⟩
  | .hbm, ⟨26, _⟩ => ⟨S65536x1, .f32⟩
  | .hbm, ⟨27, _⟩ => ⟨S65536x1, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S1x1024, .f32⟩
  | .hbm, ⟨32, _⟩ => ⟨S65536x1024, .f32⟩
  | .hbm, ⟨33, _⟩ => ⟨S65536x1024, .f32⟩
  | .hbm, ⟨34, _⟩ => ⟨S65536x2560, .f32⟩
  | .hbm, ⟨35, _⟩ => ⟨S65536x1024, .f32⟩
  | .hbm, ⟨36, _⟩ => ⟨S65536x512, .f32⟩
  | .hbm, ⟨37, _⟩ => ⟨S65536x512, .f32⟩
  | .hbm, ⟨38, _⟩ => ⟨S65536x512, .f32⟩
  | .hbm, ⟨39, _⟩ => ⟨S_, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536x1024, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S65536x512, .f32⟩
  | .hbm, ⟨49, _⟩ => ⟨S65536x512, .f32⟩
  | .hbm, ⟨50, _⟩ => ⟨S65536x512, .f32⟩
  | .hbm, ⟨51, _⟩ => ⟨S_, .f32⟩
  | .hbm, ⟨52, _⟩ => ⟨S65536, .f32⟩
  | .hbm, ⟨53, _⟩ => ⟨S65536x1, .f32⟩
  | .hbm, ⟨54, _⟩ => ⟨S_, .f32⟩
  | .hbm, ⟨55, _⟩ => ⟨S65536x1, .f32⟩
  | .hbm, ⟨56, _⟩ => ⟨S65536x1, .f32⟩
  | .hbm, ⟨57, _⟩ => ⟨S_, .f32⟩
  | .hbm, ⟨58, _⟩ => ⟨S65536x1, .f32⟩
  | .hbm, ⟨59, _⟩ => ⟨S65536x1, .f32⟩
  | .hbm, ⟨60, _⟩ => ⟨S65536x1, .f32⟩
  | .hbm, ⟨61, _⟩ => ⟨S65536x512, .f32⟩
  | .hbm, ⟨62, _⟩ => ⟨S65536x512, .f32⟩
  | .hbm, ⟨63, _⟩ => ⟨S1x512, .f32⟩
  | .hbm, ⟨64, _⟩ => ⟨S65536x512, .f32⟩
  | .hbm, ⟨65, _⟩ => ⟨S65536x512, .f32⟩
  | .hbm, ⟨66, _⟩ => ⟨S65536x8x64, .f32⟩
  | .hbm, ⟨67, _⟩ => ⟨S65536x8x64, .f32⟩
  | .hbm, ⟨68, _⟩ => ⟨S512x128x8x64, .f32⟩
  | .hbm, ⟨69, _⟩ => ⟨S8x512x64x128, .f32⟩
  | .hbm, ⟨70, _⟩ => ⟨S512x128x8x64, .f32⟩
  | .hbm, ⟨71, _⟩ => ⟨S128x8, .f32⟩
  | .hbm, ⟨72, _⟩ => ⟨S1x128x8x1, .f32⟩
  | .hbm, ⟨73, _⟩ => ⟨S512x128x8x64, .f32⟩
  | .hbm, ⟨74, _⟩ => ⟨S512x128x8x64, .f32⟩
  | .hbm, ⟨75, _⟩ => ⟨S65536x8x64, .f32⟩
  | .hbm, ⟨76, _⟩ => ⟨S65536x8x64, .f32⟩
  | .hbm, ⟨77, _⟩ => ⟨S65536x512, .f32⟩
  | .hbm, ⟨78, _⟩ => ⟨S_, .f32⟩
  | .hbm, ⟨79, _⟩ => ⟨S65536x512, .f32⟩
  | .hbm, ⟨80, _⟩ => ⟨S65536x512, .f32⟩
  | .hbm, ⟨81, _⟩ => ⟨S65536x512, .bf16⟩
  | .hbm, ⟨82, _⟩ => ⟨S65536x512, .bf16⟩
  | .hbm, ⟨83, _⟩ => ⟨S65536x512, .bf16⟩
  | .hbm, ⟨84, _⟩ => ⟨S65536x512, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_7 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Proof.FfnMath.lean ====
module

public import Idealize.ShloMosaic.Lib.Pointwise

/-! The layer's closing half — residual, RMS norm, ConvGLU and final norm — as functions of rows of
extended reals, with the facts that relate the kernel's arithmetic to the reference's. -/

@[expose] public section

set_option maxRecDepth 16384

noncomputable section

open Idealize.ShloMosaic

namespace Cert.Ffn

/-- The RMS norm of a row of 1024 entries, scaled by `g`. -/
def nrm (x g : Fin 1024 → EReal) (c : Fin 1024) : EReal :=
  x c * Ideal.rsqrt (Ideal.div (∑ k, x k * x k) (Ideal.ofBits .f32 0x44800000#32) + Ideal.ofBits .f32 0x358637BD#32) * g c

/-- A row times a matrix of 2816 columns. -/
def up (h : Fin 1024 → EReal) (w : Fin 1024 → Fin 2816 → EReal) (f : Fin 2816) : EReal := ∑ c, h c * w c f

/-- The exact GELU, by the error function. -/
def gel (z : EReal) : EReal :=
  Ideal.ofBits .f32 0x3F000000#32 * z * (1 + Ideal.erf (z * Ideal.ofBits .f32 0x3F3504F3#32))

/-- The gated row: the three-tap convolution of the neighbouring rows, its GELU, times `b`. -/
def gate (ap ac an b c0 c1 c2 cb : Fin 2816 → EReal) (f : Fin 2816) : EReal :=
  gel (c0 f * ap f + c1 f * ac f + c2 f * an f + cb f) * b f

/-- The row of the result: the down projection of the gated row added to the residual, normalised. -/
def fin (x : Fin 1024 → EReal) (gt : Fin 2816 → EReal) (wd : Fin 2816 → Fin 1024 → EReal) (gf : Fin 1024 → EReal)
    (c : Fin 1024) : EReal :=
  nrm (fun c => x c + ∑ f, gt f * wd f c) gf c

/-- The residual row after the mixers' output projection. -/
def res (x : Fin 1024 → EReal) (a b : Fin 512 → EReal) (wa wb : Fin 512 → Fin 1024 → EReal) (c : Fin 1024) : EReal :=
  x c + ∑ k, a k * wa k c + ∑ k, b k * wb k c

/-- A residual row normalised and projected up. -/
def rup (x g : Fin 1024 → EReal) (w : Fin 1024 → Fin 2816 → EReal) (f : Fin 2816) : EReal := up (nrm x g) w f

/-- The norm of the zero row is the zero row. -/
theorem nrm_zero (g : Fin 1024 → EReal) (c : Fin 1024) : nrm (fun _ => 0) g c = 0 := by
  simp [nrm]

/-- A zero row has a zero projection. -/
theorem up_zero (w : Fin 1024 → Fin 2816 → EReal) (f : Fin 2816) : up (fun _ => 0) w f = 0 := by
  simp [up]

theorem res_zero (wa wb : Fin 512 → Fin 1024 → EReal) : res (fun _ => 0) (fun _ => 0) (fun _ => 0) wa wb = fun _ => 0 := by
  funext c; simp [res]

theorem rup_zero (g : Fin 1024 → EReal) (w : Fin 1024 → Fin 2816 → EReal) (f : Fin 2816) : rup (fun _ => 0) g w f = 0 := by
  have h : nrm (fun _ => 0) g = fun _ => 0 := funext (nrm_zero g)
  rw [rup, h, up_zero]

theorem fin_gate_congr {x x' : Fin 1024 → EReal} {ap ap' ac ac' an an' b b' c0 c0' c1 c1' c2 c2' cb cb' : Fin 2816 → EReal}
    {wd wd' : Fin 2816 → Fin 1024 → EReal} {gf gf' : Fin 1024 → EReal} (c : Fin 1024) (h1 : x = x') (h2 : ap = ap') (h3 : ac = ac')
    (h4 : an = an') (h5 : b = b') (h6 : c0 = c0') (h7 : c1 = c1') (h8 : c2 = c2') (h9 : cb = cb') (h10 : wd = wd') (h11 : gf = gf') :
    fin x (gate ap ac an b c0 c1 c2 cb) wd gf c = fin x' (gate ap' ac' an' b' c0' c1' c2' cb') wd' gf' c := by
  rw [h1, h2, h3, h4, h5, h6, h7, h8, h9, h10, h11]

theorem bit_cases : ∀ b : BitVec 1, b = 0#1 ∨ b = 1#1 := by decide

/-- Whether a tile has a tile of its sequence before it, as the kernel computes it from the grid point. -/
def hasPrev (n a : BitVec 32) : BitVec 1 :=
  Scalar.cmpi .sgt (Scalar.select (Scalar.andi (Scalar.xori (Scalar.cmpi .slt (Scalar.remsi a (Scalar.select (Scalar.cmpi .eq n 0#32) 1#32 n)) 0#32) (Scalar.cmpi .slt (Scalar.select (Scalar.cmpi .eq n 0#32) 1#32 n) 0#32)) (Scalar.cmpi .ne (Scalar.remsi a (Scalar.select (Scalar.cmpi .eq n 0#32) 1#32 n)) 0#32)) (Scalar.addi (Scalar.remsi a (Scalar.select (Scalar.cmpi .eq n 0#32) 1#32 n)) (Scalar.select (Scalar.cmpi .eq n 0#32) 1#32 n)) (Scalar.remsi a (Scalar.select (Scalar.cmpi .eq n 0#32) 1#32 n))) 0#32

/-- Whether a tile has a tile of its sequence after it. -/
def hasNext (n l a : BitVec 32) : BitVec 1 :=
  Scalar.cmpi .slt (Scalar.select (Scalar.andi (Scalar.xori (Scalar.cmpi .slt (Scalar.remsi a (Scalar.select (Scalar.cmpi .eq n 0#32) 1#32 n)) 0#32) (Scalar.cmpi .slt (Scalar.select (Scalar.cmpi .eq n 0#32) 1#32 n) 0#32)) (Scalar.cmpi .ne (Scalar.remsi a (Scalar.select (Scalar.cmpi .eq n 0#32) 1#32 n)) 0#32)) (Scalar.addi (Scalar.remsi a (Scalar.select (Scalar.cmpi .eq n 0#32) 1#32 n)) (Scalar.select (Scalar.cmpi .eq n 0#32) 1#32 n)) (Scalar.remsi a (Scalar.select (Scalar.cmpi .eq n 0#32) 1#32 n))) l

end Cert.Ffn

end
-- ==== Proof.FfnKernel.lean ====
module

public import proofs.«01_k».proof.Proof.Gen.KernelIdeal.Skeleton
public import proofs.«01_k».proof.Proof.FfnMath
public import Idealize.ShloMosaic.Lib.Pipeline.ValueKit

/-! What the body's payloads are, entry by entry, over any loaded vectors. -/

@[expose] public section

set_option maxRecDepth 16384

noncomputable section

open Idealize.ShloMosaic

namespace Cert.KernelIdeal.Ffn

open Cert.KernelIdeal Cert.KernelIdeal.Gen Cert.Ffn

/-- The residual rows of the extended block: `x + ya · wa + yb · wb`. -/
theorem resid_at (v10 v11 : BitVec 1) (X : FVec Ideal S1040x1024 .f32) (a b : FVec Ideal S8x512 .f32) (A : FVec Ideal S1024x512 .bf16)
    (p q : FVec Ideal S16x512 .bf16) (B : FVec Ideal S1024x512 .bf16) (wa wb : FVec Ideal S512x1024 .bf16) (r : Fin 1040) (c : Fin 1024) :
    k0_pay10 (F := Ideal) X (k0_pay5 a b A) (k0_pay6 v10 v11 p q B) (k0_pay7 v10 v11 X a b A p q B wa wb)
      (k0_pay8 X a b A wa) (k0_pay9 v10 v11 p q B) wb wa wb wa wb (ix2 r c)
      = X (ix2 r c) + ∑ k : Fin 512, k0_pay5 (F := Ideal) a b A (ix2 r k) * wa (ix2 k c)
        + ∑ k : Fin 512, k0_pay6 (F := Ideal) v10 v11 p q B (ix2 r k) * wb (ix2 k c) := by
  pointwise [k0_pay10, k0_pay7, k0_pay8, k0_pay9]
  split
  · rfl
  · have e1 : ∀ h, (⟨272 + (↑r - 272), h⟩ : Fin 1040) = r := fun _ => Fin.ext (by dsimp only; omega)
    split
    · simp only [e1]
    · have e2 : ∀ h, (⟨528 + (↑r - 272 - 256), h⟩ : Fin 1040) = r := fun _ => Fin.ext (by dsimp only; omega)
      split
      · simp only [e2]
      · have e3 : ∀ h, (⟨784 + (↑r - 272 - 256 - 256), h⟩ : Fin 1040) = r := fun _ => Fin.ext (by dsimp only; omega)
        simp only [e3]

/-- The normalised rows. -/
theorem norm_at (X : FVec Ideal S1040x1024 .f32) (YA YB : FVec Ideal S1040x512 .bf16) (v67 : FVec Ideal S272x1024 .f32)
    (v73 : FVec Ideal S256x1024 .f32) (v74 : FVec Ideal S256x512 .bf16) (w1 w2 w3 w4 w5 : FVec Ideal S512x1024 .bf16)
    (g : FVec Ideal S1x1024 .f32) (r : Fin 1040) (c : Fin 1024) :
    k0_pay11 (F := Ideal) X YA YB v67 v73 v74 w1 w2 w3 w4 w5 g (ix2 r c)
      = nrm (fun c => k0_pay10 (F := Ideal) X YA YB v67 v73 v74 w1 w2 w3 w4 w5 (ix2 r c)) (fun c => g (ix2 0 c)) c := by
  pointwise [k0_pay11, nrm]

/-- The gated rows, from the normalised ones. -/
theorem gate_at (H : FVec Ideal S1040x1024 .f32) (wa wb : FVec Ideal S1024x2816 .bf16) (c0 c1 c2 cb : FVec Ideal S1x2816 .f32)
    (y : Fin 1024) (f : Fin 2816) :
    k0_pay13 (F := Ideal) H H wa wb c0 c1 c2 cb (ix2 y f)
      = gate (up (fun c => H (ix2 ⟨y + 7, by omega⟩ c)) (fun c f => wa (ix2 c f)))
          (up (fun c => H (ix2 ⟨y + 8, by omega⟩ c)) (fun c f => wa (ix2 c f)))
          (up (fun c => H (ix2 ⟨y + 9, by omega⟩ c)) (fun c f => wa (ix2 c f)))
          (up (fun c => H (ix2 ⟨y + 8, by omega⟩ c)) (fun c f => wb (ix2 c f)))
          (fun f => c0 (ix2 0 f)) (fun f => c1 (ix2 0 f)) (fun f => c2 (ix2 0 f)) (fun f => cb (ix2 0 f)) f := by
  pointwise [k0_pay13, gate, up, gel]
  have e1 : ∀ h, (⟨(8 + ↑y + 1040 - 1) % 1040, h⟩ : Fin 1040) = ⟨y + 7, by omega⟩ := fun _ => Fin.ext (by dsimp only; omega)
  have e2 : ∀ h, (⟨8 + ↑y, h⟩ : Fin 1040) = ⟨y + 8, by omega⟩ := fun _ => Fin.ext (by dsimp only; omega)
  have e3 : ∀ h, (⟨(8 + ↑y + 1040 - 1039) % 1040, h⟩ : Fin 1040) = ⟨y + 9, by omega⟩ := fun _ => Fin.ext (by dsimp only; omega)
  simp only [e1, e2, e3]
  rfl

theorem out0_at (X : FVec Ideal S1040x1024 .f32) (G : FVec Ideal S1024x2816 .bf16) (wd : FVec Ideal S2816x1024 .bf16)
    (gf : FVec Ideal S1x1024 .f32) (r : Fin 256) (c : Fin 1024) :
    k0_pay15 (F := Ideal) G (k0_pay14 X) wd gf (ix2 r c)
      = Cert.Ffn.fin (fun c => X (ix2 ⟨r + 8, by omega⟩ c)) (fun f => G (ix2 ⟨r, by omega⟩ f)) (fun f c => wd (ix2 f c)) (fun c => gf (ix2 0 c)) c := by
  pointwise [k0_pay15, k0_pay14, Cert.Ffn.fin, nrm]
  blk_point []

theorem out1_at (X : FVec Ideal S1040x1024 .f32) (G : FVec Ideal S1024x2816 .bf16) (wd : FVec Ideal S2816x1024 .bf16)
    (gf : FVec Ideal S1x1024 .f32) (r : Fin 256) (c : Fin 1024) :
    k0_pay16 (F := Ideal) X G wd gf (ix2 r c)
      = Cert.Ffn.fin (fun c => X (ix2 ⟨r + 264, by omega⟩ c)) (fun f => G (ix2 ⟨r + 256, by omega⟩ f)) (fun f c => wd (ix2 f c)) (fun c => gf (ix2 0 c)) c := by
  pointwise [k0_pay16, Cert.Ffn.fin, nrm]
  blk_point []

theorem out2_at (X : FVec Ideal S1040x1024 .f32) (G : FVec Ideal S1024x2816 .bf16) (wd : FVec Ideal S2816x1024 .bf16)
    (gf : FVec Ideal S1x1024 .f32) (r : Fin 256) (c : Fin 1024) :
    k0_pay17 (F := Ideal) X G wd gf (ix2 r c)
      = Cert.Ffn.fin (fun c => X (ix2 ⟨r + 520, by omega⟩ c)) (fun f => G (ix2 ⟨r + 512, by omega⟩ f)) (fun f c => wd (ix2 f c)) (fun c => gf (ix2 0 c)) c := by
  pointwise [k0_pay17, Cert.Ffn.fin, nrm]
  blk_point []

theorem out3_at (X : FVec Ideal S1040x1024 .f32) (G : FVec Ideal S1024x2816 .bf16) (wd : FVec Ideal S2816x1024 .bf16)
    (gf : FVec Ideal S1x1024 .f32) (r : Fin 256) (c : Fin 1024) :
    k0_pay1 (F := Ideal) (k0_pay18 X G wd) (k0_pay19 gf) (k0_pay20 X G wd) (ix2 r c)
      = Cert.Ffn.fin (fun c => X (ix2 ⟨r + 776, by omega⟩ c)) (fun f => G (ix2 ⟨r + 768, by omega⟩ f)) (fun f c => wd (ix2 f c)) (fun c => gf (ix2 0 c)) c := by
  pointwise [k0_pay1, k0_pay18, k0_pay19, k0_pay20, Cert.Ffn.fin, nrm]
  blk_point []

/-! The extended blocks' rows: a tile's own rows, and the neighbouring tiles' next to them or zeros. -/

/-- A halo entry: the neighbouring tile's, or zero at the sequence's end. -/
def halo (b : BitVec 1) (v : EReal) : EReal := Scalar.select b v 0

theorem halo_one (v : EReal) : halo 1#1 v = v := rfl

theorem halo_zero (v : EReal) : halo 0#1 v = 0 := rfl

theorem x_here (i : grid0.Coords) (p n : FVec Ideal S8x1024 .f32) (x : FVec Ideal S1024x1024 .f32) (y : Fin 1024) (c : Fin 1024) :
    k0_pay2 (F := Ideal) i p n x (ix2 ⟨y + 8, by omega⟩ c) = x (ix2 y c) := by
  pointwise [k0_pay2]
  rw [dif_neg (by omega), dif_pos (by omega)]
  rfl

theorem x_prev (i : grid0.Coords) (p n : FVec Ideal S8x1024 .f32) (x : FVec Ideal S1024x1024 .f32) (y : Fin 1024) (c : Fin 1024) :
    k0_pay2 (F := Ideal) i p n x (ix2 ⟨y + 7, by omega⟩ c)
      = if h : y.val = 0 then halo (hasPrev 16#32 (BitVec.ofNat 32 (i 0).val)) (p (ix2 7 c)) else x (ix2 ⟨y - 1, by omega⟩ c) := by
  pointwise [k0_pay2]
  by_cases h : y.val = 0
  · rw [dif_pos (by omega), dif_pos h]
    have e : ∀ h', (⟨↑y + 7, h'⟩ : Fin 8) = 7 := fun _ => Fin.ext (by dsimp only; omega)
    rw [e]
    rfl
  · rw [dif_neg (by omega), dif_pos (by omega), dif_neg h]
    have e : ∀ h', (⟨↑y + 7 - 8, h'⟩ : Fin 1024) = ⟨y - 1, by omega⟩ := fun _ => Fin.ext (by dsimp only; omega)
    rw [e]

theorem x_next (i : grid0.Coords) (p n : FVec Ideal S8x1024 .f32) (x : FVec Ideal S1024x1024 .f32) (y : Fin 1024) (c : Fin 1024) :
    k0_pay2 (F := Ideal) i p n x (ix2 ⟨y + 9, by omega⟩ c)
      = if h : y.val = 1023 then halo (hasNext 16#32 15#32 (BitVec.ofNat 32 (i 0).val)) (n (ix2 0 c)) else x (ix2 ⟨(y + 1) % 1024, by omega⟩ c) := by
  pointwise [k0_pay2]
  by_cases h : y.val = 1023
  · rw [dif_neg (by omega), dif_neg (by omega), dif_pos h]
    have e : ∀ h', (⟨↑y + 9 - 8 - 1024, h'⟩ : Fin 8) = 0 := fun _ => Fin.ext (by dsimp only; omega)
    rw [e]
    rfl
  · rw [dif_neg (by omega), dif_pos (by omega), dif_neg h]
    have e : ∀ h', (⟨↑y + 9 - 8, h'⟩ : Fin 1024) = ⟨(y + 1) % 1024, by omega⟩ := fun _ => Fin.ext (by dsimp only; omega)
    rw [e]

theorem a_here (i : grid0.Coords) (p n : FVec Ideal S16x512 .bf16) (x : FVec Ideal S1024x512 .bf16) (y : Fin 1024) (c : Fin 512) :
    k0_pay5 (F := Ideal) (k0_pay3 i p) (k0_pay4 i n) x (ix2 ⟨y + 8, by omega⟩ c) = x (ix2 y c) := by
  pointwise [k0_pay5, k0_pay3, k0_pay4]
  rw [dif_neg (by omega), dif_pos (by omega)]
  rfl

theorem a_prev (i : grid0.Coords) (p n : FVec Ideal S16x512 .bf16) (x : FVec Ideal S1024x512 .bf16) (y : Fin 1024) (c : Fin 512) :
    k0_pay5 (F := Ideal) (k0_pay3 i p) (k0_pay4 i n) x (ix2 ⟨y + 7, by omega⟩ c)
      = if h : y.val = 0 then halo (hasPrev 16#32 (BitVec.ofNat 32 (i 0).val)) (p (ix2 15 c)) else x (ix2 ⟨y - 1, by omega⟩ c) := by
  pointwise [k0_pay5, k0_pay3, k0_pay4]
  by_cases h : y.val = 0
  · rw [dif_pos (by omega), dif_pos h]
    have e : ∀ h', (⟨8 + (↑y + 7), h'⟩ : Fin 16) = 15 := fun _ => Fin.ext (by dsimp only; omega)
    rw [e]
    rfl
  · rw [dif_neg (by omega), dif_pos (by omega), dif_neg h]
    have e : ∀ h', (⟨↑y + 7 - 8, h'⟩ : Fin 1024) = ⟨y - 1, by omega⟩ := fun _ => Fin.ext (by dsimp only; omega)
    rw [e]

theorem a_next (i : grid0.Coords) (p n : FVec Ideal S16x512 .bf16) (x : FVec Ideal S1024x512 .bf16) (y : Fin 1024) (c : Fin 512) :
    k0_pay5 (F := Ideal) (k0_pay3 i p) (k0_pay4 i n) x (ix2 ⟨y + 9, by omega⟩ c)
      = if h : y.val = 1023 then halo (hasNext 16#32 15#32 (BitVec.ofNat 32 (i 0).val)) (n (ix2 0 c)) else x (ix2 ⟨(y + 1) % 1024, by omega⟩ c) := by
  pointwise [k0_pay5, k0_pay3, k0_pay4]
  by_cases h : y.val = 1023
  · rw [dif_neg (by omega), dif_neg (by omega), dif_pos h]
    have e : ∀ h', (⟨↑y + 9 - 8 - 1024, h'⟩ : Fin 16) = 0 := fun _ => Fin.ext (by dsimp only; omega)
    rw [e]
    rfl
  · rw [dif_neg (by omega), dif_pos (by omega), dif_neg h]
    have e : ∀ h', (⟨↑y + 9 - 8, h'⟩ : Fin 1024) = ⟨(y + 1) % 1024, by omega⟩ := fun _ => Fin.ext (by dsimp only; omega)
    rw [e]

theorem b_here (i : grid0.Coords) (p n : FVec Ideal S16x512 .bf16) (x : FVec Ideal S1024x512 .bf16) (y : Fin 1024) (c : Fin 512) :
    k0_pay6 (F := Ideal) (hasPrev 16#32 (BitVec.ofNat 32 (i 0).val)) (hasNext 16#32 15#32 (BitVec.ofNat 32 (i 0).val)) p n x (ix2 ⟨y + 8, by omega⟩ c) = x (ix2 y c) := by
  pointwise [k0_pay6]
  rw [dif_neg (by omega), dif_pos (by omega)]
  rfl

theorem b_prev (i : grid0.Coords) (p n : FVec Ideal S16x512 .bf16) (x : FVec Ideal S1024x512 .bf16) (y : Fin 1024) (c : Fin 512) :
    k0_pay6 (F := Ideal) (hasPrev 16#32 (BitVec.ofNat 32 (i 0).val)) (hasNext 16#32 15#32 (BitVec.ofNat 32 (i 0).val)) p n x (ix2 ⟨y + 7, by omega⟩ c)
      = if h : y.val = 0 then halo (hasPrev 16#32 (BitVec.ofNat 32 (i 0).val)) (p (ix2 15 c)) else x (ix2 ⟨y - 1, by omega⟩ c) := by
  pointwise [k0_pay6]
  by_cases h : y.val = 0
  · rw [dif_pos (by omega), dif_pos h]
    have e : ∀ h', (⟨8 + (↑y + 7), h'⟩ : Fin 16) = 15 := fun _ => Fin.ext (by dsimp only; omega)
    rw [e]
    rfl
  · rw [dif_neg (by omega), dif_pos (by omega), dif_neg h]
    have e : ∀ h', (⟨↑y + 7 - 8, h'⟩ : Fin 1024) = ⟨y - 1, by omega⟩ := fun _ => Fin.ext (by dsimp only; omega)
    rw [e]

theorem b_next (i : grid0.Coords) (p n : FVec Ideal S16x512 .bf16) (x : FVec Ideal S1024x512 .bf16) (y : Fin 1024) (c : Fin 512) :
    k0_pay6 (F := Ideal) (hasPrev 16#32 (BitVec.ofNat 32 (i 0).val)) (hasNext 16#32 15#32 (BitVec.ofNat 32 (i 0).val)) p n x (ix2 ⟨y + 9, by omega⟩ c)
      = if h : y.val = 1023 then halo (hasNext 16#32 15#32 (BitVec.ofNat 32 (i 0).val)) (n (ix2 0 c)) else x (ix2 ⟨(y + 1) % 1024, by omega⟩ c) := by
  pointwise [k0_pay6]
  by_cases h : y.val = 1023
  · rw [dif_neg (by omega), dif_neg (by omega), dif_pos h]
    have e : ∀ h', (⟨↑y + 9 - 8 - 1024, h'⟩ : Fin 16) = 0 := fun _ => Fin.ext (by dsimp only; omega)
    rw [e]
    rfl
  · rw [dif_neg (by omega), dif_pos (by omega), dif_neg h]
    have e : ∀ h', (⟨↑y + 9 - 8, h'⟩ : Fin 1024) = ⟨(y + 1) % 1024, by omega⟩ := fun _ => Fin.ext (by dsimp only; omega)
    rw [e]

/-- The residual rows of the extended block, from the loaded blocks. -/
def ext (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16) : FVec Ideal S1040x1024 .f32 :=
  k0_pay10 (F := Ideal) (k0_pay2 i x0 x2 x1) (k0_pay5 (k0_pay3 i x3) (k0_pay4 i x5) x4)
    (k0_pay6 (hasPrev 16#32 (BitVec.ofNat 32 (i 0).val)) (hasNext 16#32 15#32 (BitVec.ofNat 32 (i 0).val)) x6 x8 x7)
    (k0_pay7 (hasPrev 16#32 (BitVec.ofNat 32 (i 0).val)) (hasNext 16#32 15#32 (BitVec.ofNat 32 (i 0).val)) (k0_pay2 i x0 x2 x1) (k0_pay3 i x3) (k0_pay4 i x5) x4 x6 x8 x7 wa wb)
    (k0_pay8 (k0_pay2 i x0 x2 x1) (k0_pay3 i x3) (k0_pay4 i x5) x4 wa)
    (k0_pay9 (hasPrev 16#32 (BitVec.ofNat 32 (i 0).val)) (hasNext 16#32 15#32 (BitVec.ofNat 32 (i 0).val)) x6 x8 x7) wb wa wb wa wb

/-- The gated rows of the tile, from the loaded blocks. -/
def gtd (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16)
    (g : FVec Ideal S1x1024 .f32) (w1 w2 : FVec Ideal S1024x2816 .bf16) (c0 c1 c2 cb : FVec Ideal S1x2816 .f32) : FVec Ideal S1024x2816 .bf16 :=
  k0_pay13 (F := Ideal) (k0_pay11 (k0_pay2 i x0 x2 x1) (k0_pay5 (k0_pay3 i x3) (k0_pay4 i x5) x4)
    (k0_pay6 (hasPrev 16#32 (BitVec.ofNat 32 (i 0).val)) (hasNext 16#32 15#32 (BitVec.ofNat 32 (i 0).val)) x6 x8 x7)
    (k0_pay7 (hasPrev 16#32 (BitVec.ofNat 32 (i 0).val)) (hasNext 16#32 15#32 (BitVec.ofNat 32 (i 0).val)) (k0_pay2 i x0 x2 x1) (k0_pay3 i x3) (k0_pay4 i x5) x4 x6 x8 x7 wa wb)
    (k0_pay8 (k0_pay2 i x0 x2 x1) (k0_pay3 i x3) (k0_pay4 i x5) x4 wa)
    (k0_pay9 (hasPrev 16#32 (BitVec.ofNat 32 (i 0).val)) (hasNext 16#32 15#32 (BitVec.ofNat 32 (i 0).val)) x6 x8 x7) wb wa wb wa wb g)
    (k0_pay12 (k0_pay2 i x0 x2 x1) (k0_pay5 (k0_pay3 i x3) (k0_pay4 i x5) x4)
    (k0_pay6 (hasPrev 16#32 (BitVec.ofNat 32 (i 0).val)) (hasNext 16#32 15#32 (BitVec.ofNat 32 (i 0).val)) x6 x8 x7)
    (k0_pay7 (hasPrev 16#32 (BitVec.ofNat 32 (i 0).val)) (hasNext 16#32 15#32 (BitVec.ofNat 32 (i 0).val)) (k0_pay2 i x0 x2 x1) (k0_pay3 i x3) (k0_pay4 i x5) x4 x6 x8 x7 wa wb)
    (k0_pay8 (k0_pay2 i x0 x2 x1) (k0_pay3 i x3) (k0_pay4 i x5) x4 wa)
    (k0_pay9 (hasPrev 16#32 (BitVec.ofNat 32 (i 0).val)) (hasNext 16#32 15#32 (BitVec.ofNat 32 (i 0).val)) x6 x8 x7) wb wa wb wa wb g) w1 w2 c0 c1 c2 cb

/-- The residual row `y` of the tile's own rows. -/
def own (x1 : FVec Ideal S1024x1024 .f32) (x4 x7 : FVec Ideal S1024x512 .bf16) (wa wb : FVec Ideal S512x1024 .bf16) (y : Fin 1024) :
    Fin 1024 → EReal :=
  res (fun c => x1 (ix2 y c)) (fun k => x4 (ix2 y k)) (fun k => x7 (ix2 y k)) (fun k c => wa (ix2 k c)) (fun k c => wb (ix2 k c))

/-- The residual row of a neighbouring tile's block, read at row `r` (`r'` for the activations). -/
def nbr (x0 : FVec Ideal S8x1024 .f32) (x3 x6 : FVec Ideal S16x512 .bf16) (wa wb : FVec Ideal S512x1024 .bf16) (r : Fin 8) (r' : Fin 16) :
    Fin 1024 → EReal :=
  res (fun c => x0 (ix2 r c)) (fun k => x3 (ix2 r' k)) (fun k => x6 (ix2 r' k)) (fun k c => wa (ix2 k c)) (fun k c => wb (ix2 k c))

theorem ext_eq (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16) (r : Fin 1040) (c : Fin 1024) :
    ext i x0 x2 x1 x3 x5 x4 x6 x8 x7 wa wb (ix2 r c)
      = res (fun c => k0_pay2 (F := Ideal) i x0 x2 x1 (ix2 r c)) (fun k => k0_pay5 (F := Ideal) (k0_pay3 i x3) (k0_pay4 i x5) x4 (ix2 r k))
          (fun k => k0_pay6 (F := Ideal) (hasPrev 16#32 (BitVec.ofNat 32 (i 0).val)) (hasNext 16#32 15#32 (BitVec.ofNat 32 (i 0).val)) x6 x8 x7 (ix2 r k))
          (fun k c => wa (ix2 k c)) (fun k c => wb (ix2 k c)) c := by
  rw [ext, resid_at, res]

theorem ext_here (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16) (y : Fin 1024) :
    (fun c => ext i x0 x2 x1 x3 x5 x4 x6 x8 x7 wa wb (ix2 ⟨y + 8, by omega⟩ c)) = own x1 x4 x7 wa wb y := by
  funext c
  rw [ext_eq, own]
  simp only [x_here, a_here, b_here]

theorem ext_prev (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16) (g : Fin 1024 → EReal) (w : Fin 1024 → Fin 2816 → EReal) (y : Fin 1024) (f : Fin 2816) :
    rup (fun c => ext i x0 x2 x1 x3 x5 x4 x6 x8 x7 wa wb (ix2 ⟨y + 7, by omega⟩ c)) g w f
      = if h : y.val = 0 then halo (hasPrev 16#32 (BitVec.ofNat 32 (i 0).val)) (rup (nbr x0 x3 x6 wa wb 7 15) g w f)
        else rup (own x1 x4 x7 wa wb ⟨y - 1, by omega⟩) g w f := by
  have e : (fun c => ext i x0 x2 x1 x3 x5 x4 x6 x8 x7 wa wb (ix2 ⟨y + 7, by omega⟩ c)) = _ := funext fun c => ext_eq i x0 x2 x1 x3 x5 x4 x6 x8 x7 wa wb _ c
  rw [e]
  simp only [x_prev, a_prev, b_prev]
  by_cases h : y.val = 0
  · simp only [dif_pos h]
    generalize hasPrev 16#32 (BitVec.ofNat 32 (i 0).val) = b
    rcases bit_cases b with rfl | rfl
    · simp only [halo_zero]
      exact (congrArg (fun r => rup r g w f) (res_zero _ _)).trans (rup_zero g w f)
    · simp only [halo_one]
      rfl
  · simp only [dif_neg h]
    rfl

theorem ext_next (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16) (g : Fin 1024 → EReal) (w : Fin 1024 → Fin 2816 → EReal) (y : Fin 1024) (f : Fin 2816) :
    rup (fun c => ext i x0 x2 x1 x3 x5 x4 x6 x8 x7 wa wb (ix2 ⟨y + 9, by omega⟩ c)) g w f
      = if h : y.val = 1023 then halo (hasNext 16#32 15#32 (BitVec.ofNat 32 (i 0).val)) (rup (nbr x2 x5 x8 wa wb 0 0) g w f)
        else rup (own x1 x4 x7 wa wb ⟨(y + 1) % 1024, by omega⟩) g w f := by
  have e : (fun c => ext i x0 x2 x1 x3 x5 x4 x6 x8 x7 wa wb (ix2 ⟨y + 9, by omega⟩ c)) = _ := funext fun c => ext_eq i x0 x2 x1 x3 x5 x4 x6 x8 x7 wa wb _ c
  rw [e]
  simp only [x_next, a_next, b_next]
  by_cases h : y.val = 1023
  · simp only [dif_pos h]
    generalize hasNext 16#32 15#32 (BitVec.ofNat 32 (i 0).val) = b
    rcases bit_cases b with rfl | rfl
    · simp only [halo_zero]
      exact (congrArg (fun r => rup r g w f) (res_zero _ _)).trans (rup_zero g w f)
    · simp only [halo_one]
      rfl
  · simp only [dif_neg h]
    rfl

/-- The gated rows entry by entry. -/
theorem gtd_at (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16)
    (g : FVec Ideal S1x1024 .f32) (w1 w2 : FVec Ideal S1024x2816 .bf16) (c0 c1 c2 cb : FVec Ideal S1x2816 .f32) (y : Fin 1024) (f : Fin 2816) :
    gtd i x0 x2 x1 x3 x5 x4 x6 x8 x7 wa wb g w1 w2 c0 c1 c2 cb (ix2 y f)
      = gate
          (fun f => if h : y.val = 0 then halo (hasPrev 16#32 (BitVec.ofNat 32 (i 0).val)) (rup (nbr x0 x3 x6 wa wb 7 15) (fun c => g (ix2 0 c)) (fun c f => w1 (ix2 c f)) f)
            else rup (own x1 x4 x7 wa wb ⟨y - 1, by omega⟩) (fun c => g (ix2 0 c)) (fun c f => w1 (ix2 c f)) f)
          (rup (own x1 x4 x7 wa wb y) (fun c => g (ix2 0 c)) (fun c f => w1 (ix2 c f)))
          (fun f => if h : y.val = 1023 then halo (hasNext 16#32 15#32 (BitVec.ofNat 32 (i 0).val)) (rup (nbr x2 x5 x8 wa wb 0 0) (fun c => g (ix2 0 c)) (fun c f => w1 (ix2 c f)) f)
            else rup (own x1 x4 x7 wa wb ⟨(y + 1) % 1024, by omega⟩) (fun c => g (ix2 0 c)) (fun c f => w1 (ix2 c f)) f)
          (rup (own x1 x4 x7 wa wb y) (fun c => g (ix2 0 c)) (fun c f => w2 (ix2 c f)))
          (fun f => c0 (ix2 0 f)) (fun f => c1 (ix2 0 f)) (fun f => c2 (ix2 0 f)) (fun f => cb (ix2 0 f)) f := by
  rw [gtd]
  refine (gate_at _ w1 w2 c0 c1 c2 cb y f).trans ?_
  simp only [norm_at]
  rw [← ext_here i x0 x2 x1 x3 x5 x4 x6 x8 x7 wa wb y]
  simp only [gate, ← ext_prev i x0 x2 x1 x3 x5 x4 x6 x8 x7 wa wb, ← ext_next i x0 x2 x1 x3 x5 x4 x6 x8 x7 wa wb]
  rfl

/-- A row of the result of the tile, from the loaded blocks. -/
def tile (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16)
    (g : FVec Ideal S1x1024 .f32) (w1 w2 : FVec Ideal S1024x2816 .bf16) (c0 c1 c2 : Fin 2816 → EReal) (cb : FVec Ideal S1x2816 .f32)
    (wd : FVec Ideal S2816x1024 .bf16) (gf : FVec Ideal S1x1024 .f32) (y : Fin 1024) : Fin 1024 → EReal :=
  fin (own x1 x4 x7 wa wb y)
    (gate
      (fun f => if h : y.val = 0 then halo (hasPrev 16#32 (BitVec.ofNat 32 (i 0).val)) (rup (nbr x0 x3 x6 wa wb 7 15) (fun c => g (ix2 0 c)) (fun c f => w1 (ix2 c f)) f)
        else rup (own x1 x4 x7 wa wb ⟨y - 1, by omega⟩) (fun c => g (ix2 0 c)) (fun c f => w1 (ix2 c f)) f)
      (rup (own x1 x4 x7 wa wb y) (fun c => g (ix2 0 c)) (fun c f => w1 (ix2 c f)))
      (fun f => if h : y.val = 1023 then halo (hasNext 16#32 15#32 (BitVec.ofNat 32 (i 0).val)) (rup (nbr x2 x5 x8 wa wb 0 0) (fun c => g (ix2 0 c)) (fun c f => w1 (ix2 c f)) f)
        else rup (own x1 x4 x7 wa wb ⟨(y + 1) % 1024, by omega⟩) (fun c => g (ix2 0 c)) (fun c f => w1 (ix2 c f)) f)
      (rup (own x1 x4 x7 wa wb y) (fun c => g (ix2 0 c)) (fun c f => w2 (ix2 c f)))
      c0 c1 c2 (fun f => cb (ix2 0 f)))
    (fun f c => wd (ix2 f c)) (fun c => gf (ix2 0 c))

theorem tile_eq (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16)
    (g : FVec Ideal S1x1024 .f32) (w1 w2 : FVec Ideal S1024x2816 .bf16) (c0 c1 c2 cb : FVec Ideal S1x2816 .f32)
    (wd : FVec Ideal S2816x1024 .bf16) (gf : FVec Ideal S1x1024 .f32) (r : Fin 1040) (y y' : Fin 1024) (c : Fin 1024) (hr : r.val = y + 8)
    (hy : y'.val = y) :
    fin (fun c => ext i x0 x2 x1 x3 x5 x4 x6 x8 x7 wa wb (ix2 r c)) (fun f => gtd i x0 x2 x1 x3 x5 x4 x6 x8 x7 wa wb g w1 w2 c0 c1 c2 cb (ix2 y' f))
        (fun f c => wd (ix2 f c)) (fun c => gf (ix2 0 c)) c
      = tile i x0 x2 x1 x3 x5 x4 x6 x8 x7 wa wb g w1 w2 (fun f => c0 (ix2 0 f)) (fun f => c1 (ix2 0 f)) (fun f => c2 (ix2 0 f)) cb wd gf y c := by
  obtain rfl : y' = y := Fin.ext hy
  have er : r = ⟨y' + 8, by have := y'.isLt; omega⟩ := Fin.ext hr
  rw [er]
  rw [ext_here i x0 x2 x1 x3 x5 x4 x6 x8 x7 wa wb y']
  simp only [gtd_at]
  rfl

end Cert.KernelIdeal.Ffn

end
-- ==== Proof.FfnRef.lean ====
module

public import proofs.«01_k».proof.Proof.Gen.ReferenceIdeal.Run
public import proofs.«01_k».proof.Proof.FfnMath
public import Idealize.ShloMosaic.Lib.Pipeline.ValueKit

/-! The reference's result, layer by layer and then entry by entry. -/

@[expose] public section

set_option maxRecDepth 16384

noncomputable section

open Idealize.ShloMosaic

namespace Cert.ReferenceIdeal.Ffn

open Cert.ReferenceIdeal Cert.ReferenceIdeal.Gen Cert.ReferenceIdeal.Value Cert.Ffn

/-- The residual stream after the mixers' output projection. -/
def resid (x : FVec Ideal S2x16384x1024 .f32) (ya yb : FVec Ideal S65536x512 .f32) (w : FVec Ideal S1x1024x1024 .f32) :
    FVec Ideal S2x16384x1024 .f32 :=
  addf x (Host.dotGeneral dot_S2x16384x1024_S1024x1024_S2x16384x1024_2_0_01_1_n_n none (shapeCast _ (concatenate S32768x1024 1 [⟨S32768x512, (extractStridedSlice S32768x512 ![0, 0] ya slices_S65536x512_S32768x512_0_0)⟩, ⟨S32768x512, (extractStridedSlice S32768x512 ![0, 0] yb slices_S65536x512_S32768x512_0_0)⟩] concatenates_S32768x512_S32768x512_S32768x1024_d1) shapeCasts_S32768x1024_S2x16384x1024) (shapeCast _ w shapeCasts_S1x1024x1024_S1024x1024))

/-- The RMS norm along the last axis. -/
def norm (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))

/-- The up projection. -/
def proj (h : FVec Ideal S2x16384x1024 .f32) (w : FVec Ideal S1x1024x5632 .f32) : FVec Ideal S2x16384x5632 .f32 :=
  Host.dotGeneral dot_S2x16384x1024_S1024x5632_S2x16384x5632_2_0_01_1_n_n none h (shapeCast _ w shapeCasts_S1x1024x5632_S1024x5632)

/-- The gate's half with a zero row before and after each sequence. -/
def padded (u : FVec Ideal S2x16384x5632 .f32) : FVec Ideal S2x16386x2816 .f32 :=
  pad S2x16386x2816 ![0, 1, 0] ![0, 1, 0] ![0, 0, 0] (extractStridedSlice S2x16384x2816 ![0, 0, 0] u slices_S2x16384x5632_S2x16384x2816_0_0_0) (sitofp .f32 (constantI S_ 32 0#32)) pads_S2x16384x2816_S2x16386x2816_000_110_000 h_S_

/-- The convolution along the tokens. -/
def conv (e : FVec Ideal S2x16386x2816 .f32) (cw : FVec Ideal S1x3x2816 .f32) (cb : FVec Ideal S1x2816 .f32) : FVec Ideal S2x16384x2816 .f32 :=
  addf (addf (addf (mulf (extractStridedSlice S2x16384x2816 ![0, 0, 0] e slices_S2x16386x2816_S2x16384x2816_0_0_0) (broadcastInDim S2x16384x2816 ![0, 1, 2] bcast_S1x1x2816_S2x16384x2816_0_1_2 (broadcastInDim S1x1x2816 ![2] bcast_S2816_S1x1x2816_2 (shapeCast _ (extractStridedSlice S1x2816 ![0, 0] (shapeCast _ cw shapeCasts_S1x3x2816_S3x2816) slices_S3x2816_S1x2816_0_0) shapeCasts_S1x2816_S2816)))) (mulf (extractStridedSlice S2x16384x2816 ![0, 1, 0] e slices_S2x16386x2816_S2x16384x2816_0_1_0) (broadcastInDim S2x16384x2816 ![0, 1, 2] bcast_S1x1x2816_S2x16384x2816_0_1_2 (broadcastInDim S1x1x2816 ![2] bcast_S2816_S1x1x2816_2 (shapeCast _ (extractStridedSlice S1x2816 ![1, 0] (shapeCast _ cw shapeCasts_S1x3x2816_S3x2816) slices_S3x2816_S1x2816_1_0) shapeCasts_S1x2816_S2816))))) (mulf (extractStridedSlice S2x16384x2816 ![0, 2, 0] e slices_S2x16386x2816_S2x16384x2816_0_2_0) (broadcastInDim S2x16384x2816 ![0, 1, 2] bcast_S1x1x2816_S2x16384x2816_0_1_2 (broadcastInDim S1x1x2816 ![2] bcast_S2816_S1x1x2816_2 (shapeCast _ (extractStridedSlice S1x2816 ![2, 0] (shapeCast _ cw shapeCasts_S1x3x2816_S3x2816) slices_S3x2816_S1x2816_2_0) shapeCasts_S1x2816_S2816))))) (broadcastInDim S2x16384x2816 ![0, 1, 2] bcast_S1x1x2816_S2x16384x2816_0_1_2 (broadcastInDim S1x1x2816 ![2] bcast_S2816_S1x1x2816_2 (shapeCast _ cb shapeCasts_S1x2816_S2816)))

/-- GELU of the convolution times the other half. -/
def gated (z : FVec Ideal S2x16384x2816 .f32) (u : FVec Ideal S2x16384x5632 .f32) : FVec Ideal S2x16384x2816 .f32 :=
  mulf (mulf (mulf (broadcastInDim S2x16384x2816 ![] bcast_S_S2x16384x2816 (constant S_ .f32 0x3F000000#32)) z) (Host.erfc (mulf (Host.negf z) (broadcastInDim S2x16384x2816 ![] bcast_S_S2x16384x2816 (constant S_ .f32 0x3F3504F3#32))))) (extractStridedSlice S2x16384x2816 ![0, 0, 2816] u slices_S2x16384x5632_S2x16384x2816_0_0_2816)

/-- The down projection added to the residual stream. -/
def down (x : FVec Ideal S2x16384x1024 .f32) (gt : FVec Ideal S2x16384x2816 .f32) (w : FVec Ideal S1x2816x1024 .f32) : FVec Ideal S2x16384x1024 .f32 :=
  addf x (Host.dotGeneral dot_S2x16384x2816_S2816x1024_S2x16384x1024_2_0_01_1_n_n none gt (shapeCast _ w shapeCasts_S1x2816x1024_S2816x1024))

/-- All layers after the residual stream and its projection. -/
def tail (x : FVec Ideal S2x16384x1024 .f32) (u : FVec Ideal S2x16384x5632 .f32) (cw : FVec Ideal S1x3x2816 .f32) (cb : FVec Ideal S1x2816 .f32)
    (wd : FVec Ideal S1x2816x1024 .f32) (gf : FVec Ideal S1024 .f32) : FVec Ideal S32768x1024 .f32 :=
  shapeCast _ (norm (down x (gated (conv (padded u) cw cb) u) wd) gf) shapeCasts_S2x16384x1024_S32768x1024

set_option maxHeartbeats 1600000 in
/-- The result is the composition of the layers. -/
theorem res_eq (m : (ℓ : Loc nD τ sig) → Buf (Elt Ideal) ℓ) (c : Dev nD) :
    res_main_v75 (F := Ideal) m c =
      tail (resid (m ((c.tc : Thread nD τ).loc main_arg0)) (m ((c.tc : Thread nD τ).loc main_arg1)) (m ((c.tc : Thread nD τ).loc main_arg2)) (m ((c.tc : Thread nD τ).loc main_arg3)))
        (proj (norm (resid (m ((c.tc : Thread nD τ).loc main_arg0)) (m ((c.tc : Thread nD τ).loc main_arg1)) (m ((c.tc : Thread nD τ).loc main_arg2)) (m ((c.tc : Thread nD τ).loc main_arg3)))
          (shapeCast _ (m ((c.tc : Thread nD τ).loc main_arg4)) shapeCasts_S1x1024_S1024)) (m ((c.tc : Thread nD τ).loc main_arg5)))
        (m ((c.tc : Thread nD τ).loc main_arg6)) (m ((c.tc : Thread nD τ).loc main_arg7)) (m ((c.tc : Thread nD τ).loc main_arg8)) (m ((c.tc : Thread nD τ).loc main_arg9)) := rfl

/-- The complementary error function of a negated product, by the error function. -/
theorem erfc_at (z s : EReal) : Ideal.erfc (-z * s) = 1 + Ideal.erf (z * s) := by
  rw [EReal.neg_mul, Ideal.erfc_neg]

theorem resid_at (x : FVec Ideal S2x16384x1024 .f32) (ya yb : FVec Ideal S65536x512 .f32) (w : FVec Ideal S1x1024x1024 .f32)
    (s : Fin 2) (τ : Fin 16384) (c : Fin 1024) :
    resid x ya yb w (ix3 s τ c) = x (ix3 s τ c)
      + ∑ k : Fin 512, ya (ix2 ⟨s * 16384 + τ, by omega⟩ k) * w (ix3 0 ⟨k, by omega⟩ c)
      + ∑ k : Fin 512, yb (ix2 ⟨s * 16384 + τ, by omega⟩ k) * w (ix3 0 ⟨k + 512, by omega⟩ c) := by
  pointwise [resid]
  have e : ∀ (k : Fin 512) h, (⟨512 + ↑k, h⟩ : Fin 1024) = ⟨k + 512, by omega⟩ := fun k _ => Fin.ext (Nat.add_comm _ _)
  simp only [e, add_assoc]

theorem norm_at (x : FVec Ideal S2x16384x1024 .f32) (g : FVec Ideal S1024 .f32) (s : Fin 2) (τ : Fin 16384) (c : Fin 1024) :
    norm x g (ix3 s τ c) = nrm (fun c => x (ix3 s τ c)) (fun c => g (ix1 c)) c := by
  pointwise [norm, nrm]

theorem proj_at (h : FVec Ideal S2x16384x1024 .f32) (w : FVec Ideal S1x1024x5632 .f32) (s : Fin 2) (τ : Fin 16384) (f : Fin 5632) :
    proj h w (ix3 s τ f) = ∑ c : Fin 1024, h (ix3 s τ c) * w (ix3 0 c f) := by
  pointwise [proj]

theorem sitofp_zero : (FloatOps.sitofp (F := Ideal) FTy.f32 (0#32)) = (0 : EReal) := by
  simp [FloatOps.sitofp]

theorem padded_at (u : FVec Ideal S2x16384x5632 .f32) (s : Fin 2) (r : Fin 16386) (f : Fin 2816) :
    padded u (ix3 s r f) = if h : 0 < r.val ∧ r.val < 16385 then u (ix3 s ⟨r - 1, by omega⟩ ⟨f, by omega⟩) else 0 := by
  pointwise [padded]
  by_cases h : 0 < r.val ∧ r.val < 16385
  · rw [dif_pos h, dif_pos (by omega)]
  · rw [dif_neg h, dif_neg (by omega)]
    exact sitofp_zero

theorem padded_prev (u : FVec Ideal S2x16384x5632 .f32) (s : Fin 2) (τ : Fin 16384) (f : Fin 2816) :
    padded u (ix3 s ⟨τ, by omega⟩ f) = if h : 0 < τ.val then u (ix3 s ⟨τ - 1, by omega⟩ ⟨f, by omega⟩) else 0 := by
  rw [padded_at]
  by_cases h : 0 < τ.val
  · rw [dif_pos h, dif_pos ⟨h, by dsimp only; omega⟩]
  · rw [dif_neg h, dif_neg (fun h' => h h'.1)]

theorem padded_here (u : FVec Ideal S2x16384x5632 .f32) (s : Fin 2) (τ : Fin 16384) (f : Fin 2816) :
    padded u (ix3 s ⟨τ + 1, by omega⟩ f) = u (ix3 s τ ⟨f, by omega⟩) := by
  rw [padded_at, dif_pos ⟨by dsimp only; omega, by dsimp only; omega⟩]
  rfl

theorem padded_next (u : FVec Ideal S2x16384x5632 .f32) (s : Fin 2) (τ : Fin 16384) (f : Fin 2816) :
    padded u (ix3 s ⟨τ + 2, by omega⟩ f) = if h : τ.val < 16383 then u (ix3 s ⟨τ + 1, by omega⟩ ⟨f, by omega⟩) else 0 := by
  rw [padded_at]
  by_cases h : τ.val < 16383
  · rw [dif_pos h, dif_pos ⟨by dsimp only; omega, by dsimp only; omega⟩]
    rfl
  · rw [dif_neg h, dif_neg (fun h' => h (by have := h'.2; dsimp only at this; omega))]

theorem conv_at (e : FVec Ideal S2x16386x2816 .f32) (cw : FVec Ideal S1x3x2816 .f32) (cb : FVec Ideal S1x2816 .f32)
    (s : Fin 2) (τ : Fin 16384) (f : Fin 2816) :
    conv e cw cb (ix3 s τ f) = cw (ix3 0 0 f) * e (ix3 s ⟨τ, by omega⟩ f) + cw (ix3 0 1 f) * e (ix3 s ⟨τ + 1, by omega⟩ f)
      + cw (ix3 0 2 f) * e (ix3 s ⟨τ + 2, by omega⟩ f) + cb (ix2 0 f) := by
  pointwise [conv]
  have e1 : ∀ h, (⟨1 + ↑τ, h⟩ : Fin 16386) = ⟨τ + 1, by omega⟩ := fun _ => Fin.ext (Nat.add_comm _ _)
  have e2 : ∀ h, (⟨2 + ↑τ, h⟩ : Fin 16386) = ⟨τ + 2, by omega⟩ := fun _ => Fin.ext (Nat.add_comm _ _)
  simp only [e1, e2, mul_comm (e _)]

theorem gated_at (z : FVec Ideal S2x16384x2816 .f32) (u : FVec Ideal S2x16384x5632 .f32) (s : Fin 2) (τ : Fin 16384) (f : Fin 2816) :
    gated z u (ix3 s τ f) = gel (z (ix3 s τ f)) * u (ix3 s τ ⟨f + 2816, by omega⟩) := by
  pointwise [gated, gel]
  have e : ∀ h, (⟨2816 + ↑f, h⟩ : Fin 5632) = ⟨f + 2816, by omega⟩ := fun _ => Fin.ext (Nat.add_comm _ _)
  rw [e, erfc_at]

theorem down_at (x : FVec Ideal S2x16384x1024 .f32) (gt : FVec Ideal S2x16384x2816 .f32) (w : FVec Ideal S1x2816x1024 .f32)
    (s : Fin 2) (τ : Fin 16384) (c : Fin 1024) :
    down x gt w (ix3 s τ c) = x (ix3 s τ c) + ∑ f : Fin 2816, gt (ix3 s τ f) * w (ix3 0 f c) := by
  pointwise [down]

theorem cast_at (x : FVec Ideal S2x16384x1024 .f32) (n : Fin 32768) (c : Fin 1024) :
    (shapeCast S32768x1024 x shapeCasts_S2x16384x1024_S32768x1024 : FVec Ideal S32768x1024 .f32) (ix2 n c)
      = x (ix3 ⟨n / 16384, by omega⟩ ⟨n % 16384, by omega⟩ c) := by
  pointwise []

theorem row_at (g : FVec Ideal S1x1024 .f32) (k : Fin 1024) :
    (shapeCast S1024 g shapeCasts_S1x1024_S1024 : FVec Ideal S1024 .f32) (ix1 k) = g (ix2 0 k) := by
  pointwise []

theorem proj_lo (x : FVec Ideal S2x16384x1024 .f32) (g : FVec Ideal S1024 .f32) (w : FVec Ideal S1x1024x5632 .f32) (s : Fin 2) (τ : Fin 16384) (f : Fin 2816) :
    proj (norm x g) w (ix3 s τ ⟨f, by omega⟩) = rup (fun c => x (ix3 s τ c)) (fun c => g (ix1 c)) (fun c f => w (ix3 0 c ⟨f, by omega⟩)) f := by
  rw [proj_at, rup, up]
  simp only [norm_at]

theorem proj_hi (x : FVec Ideal S2x16384x1024 .f32) (g : FVec Ideal S1024 .f32) (w : FVec Ideal S1x1024x5632 .f32) (s : Fin 2) (τ : Fin 16384) (f : Fin 2816) :
    proj (norm x g) w (ix3 s τ ⟨f + 2816, by omega⟩) = rup (fun c => x (ix3 s τ c)) (fun c => g (ix1 c)) (fun c f => w (ix3 0 c ⟨f + 2816, by omega⟩)) f := by
  rw [proj_at, rup, up]
  simp only [norm_at]

/-- The result entry by entry, from the residual stream and its projection. -/
theorem tail_at (x : FVec Ideal S2x16384x1024 .f32) (u : FVec Ideal S2x16384x5632 .f32) (cw : FVec Ideal S1x3x2816 .f32)
    (cb : FVec Ideal S1x2816 .f32) (wd : FVec Ideal S1x2816x1024 .f32) (gf : FVec Ideal S1024 .f32) (n : Fin 32768) (c : Fin 1024)
    (s : Fin 2) (τ : Fin 16384) (hn : n.val = s * 16384 + τ) :
    tail x u cw cb wd gf (ix2 n c)
      = fin (fun c => x (ix3 s τ c))
          (gate (fun f => if h : 0 < τ.val then u (ix3 s ⟨τ - 1, by omega⟩ ⟨f, by omega⟩) else 0)
            (fun f => u (ix3 s τ ⟨f, by omega⟩))
            (fun f => if h : τ.val < 16383 then u (ix3 s ⟨τ + 1, by omega⟩ ⟨f, by omega⟩) else 0)
            (fun f => u (ix3 s τ ⟨f + 2816, by omega⟩))
            (fun f => cw (ix3 0 0 f)) (fun f => cw (ix3 0 1 f)) (fun f => cw (ix3 0 2 f)) (fun f => cb (ix2 0 f)))
          (fun f c => wd (ix3 0 f c)) (fun c => gf (ix1 c)) c := by
  have hs : (⟨n / 16384, by omega⟩ : Fin 2) = s := Fin.ext (by dsimp only; omega)
  have ht : (⟨n % 16384, by omega⟩ : Fin 16384) = τ := Fin.ext (by dsimp only; omega)
  rw [tail, cast_at, hs, ht, norm_at, fin]
  congr 1
  funext c
  rw [down_at]
  congr 1
  refine Finset.sum_congr rfl fun f _ => ?_
  congr 1
  rw [gated_at, conv_at, gate, padded_prev, padded_here, padded_next]

end Cert.ReferenceIdeal.Ffn

end
-- ==== Proof.FfnValue.lean ====
module

public import proofs.«01_k».proof.Proof.Gen.KernelIdeal.Frame
public import proofs.«01_k».proof.Proof.FfnKernel
public import proofs.«01_k».proof.Proof.FfnRef

/-! The kernel's final array is the reference's result. -/

@[expose] public section

set_option maxRecDepth 16384

noncomputable section

open Idealize.ShloMosaic

namespace Cert.KernelIdeal.Ffn

open Cert.KernelIdeal Cert.KernelIdeal.Gen Cert.Ffn

/-- The tile's result entry by entry, from the staged blocks. -/
theorem out_at (i : grid0.Coords) (x0 : FVec Ideal S8x1024 .f32) (x1 : FVec Ideal S1024x1024 .f32) (x2 : FVec Ideal S8x1024 .f32) (x3 : FVec Ideal S16x512 .bf16) (x4 : FVec Ideal S1024x512 .bf16) (x5 x6 : FVec Ideal S16x512 .bf16) (x7 : FVec Ideal S1024x512 .bf16) (x8 : FVec Ideal S16x512 .bf16) (x9 x10 : FVec Ideal S512x1024 .bf16) (x11 : FVec Ideal S1x1024 .f32) (x12 x13 : FVec Ideal S1024x2816 .bf16) (x14 : FVec Ideal S3x2816 .f32) (x15 : FVec Ideal S1x2816 .f32) (x16 : FVec Ideal S2816x1024 .bf16) (x17 : FVec Ideal S1x1024 .f32) (y : S1024x1024.Idx) :
    out0_18 (F := Ideal) i x0 x1 x2 x3 x4 x5 x6 x7 x8 x9 x10 x11 x12 x13 x14 x15 x16 x17 y
      = tile i x0 x2 x1 x3 x5 x4 x6 x8 x7 x9 x10 x11 x12 x13 (fun f => x14 (ix2 0 f)) (fun f => x14 (ix2 1 f)) (fun f => x14 (ix2 2 f)) x15 x16 x17 (y 0) (y 1) := by
  unfold_out out0_18
  canon_tiles p k
  · idx_vars p
    refine (out3_at (ext i _ _ _ _ _ _ _ _ _ _ _) (gtd i _ _ _ _ _ _ _ _ _ _ _ _ _ _ _ _ _ _) _ _ _ _).trans ?_
    refine (tile_eq i _ _ _ _ _ _ _ _ _ _ _ _ _ _ _ _ _ _ _ _ _ (y 0) _ _ (by dsimp only; omega) (by dsimp only; omega)).trans ?_
    rw [show p1 = y 1 from Fin.ext k1.symm]
    congr 1
    all_goals first
      | exact Pipeline.ld_unit_lit' _ _ (by decide)
      | (funext f; pointwise; done)
      | (funext f; pointwise; blk_ext [])
  · idx_vars p
    refine (out2_at (ext i _ _ _ _ _ _ _ _ _ _ _) (gtd i _ _ _ _ _ _ _ _ _ _ _ _ _ _ _ _ _ _) _ _ _ _).trans ?_
    refine (tile_eq i _ _ _ _ _ _ _ _ _ _ _ _ _ _ _ _ _ _ _ _ _ (y 0) _ _ (by dsimp only; omega) (by dsimp only; omega)).trans ?_
    rw [show p1 = y 1 from Fin.ext k1.symm]
    congr 1
    all_goals first
      | exact Pipeline.ld_unit_lit' _ _ (by decide)
      | (funext f; pointwise; done)
      | (funext f; pointwise; blk_ext [])
  · idx_vars p
    refine (out1_at (ext i _ _ _ _ _ _ _ _ _ _ _) (gtd i _ _ _ _ _ _ _ _ _ _ _ _ _ _ _ _ _ _) _ _ _ _).trans ?_
    refine (tile_eq i _ _ _ _ _ _ _ _ _ _ _ _ _ _ _ _ _ _ _ _ _ (y 0) _ _ (by dsimp only; omega) (by dsimp only; omega)).trans ?_
    rw [show p1 = y 1 from Fin.ext k1.symm]
    congr 1
    all_goals first
      | exact Pipeline.ld_unit_lit' _ _ (by decide)
      | (funext f; pointwise; done)
      | (funext f; pointwise; blk_ext [])
  · idx_vars p
    refine (out0_at (ext i _ _ _ _ _ _ _ _ _ _ _) (gtd i _ _ _ _ _ _ _ _ _ _ _ _ _ _ _ _ _ _) _ _ _ _).trans ?_
    refine (tile_eq i _ _ _ _ _ _ _ _ _ _ _ _ _ _ _ _ _ _ _ _ _ (y 0) _ _ (by dsimp only; omega) (by dsimp only; omega)).trans ?_
    rw [show p1 = y 1 from Fin.ext k1.symm]
    congr 1
    all_goals first
      | exact Pipeline.ld_unit_lit' _ _ (by decide)
      | (funext f; pointwise; done)
      | (funext f; pointwise; blk_ext [])

/-- The block each window reads or writes at a grid point. -/
theorem idx : ∀ t : Fin cfg0.N,
    win0_0.index t = ![t.val * 128 - 1, 0] ∧ win0_1.index t = ![t.val, 0] ∧ win0_2.index t = ![min ((t.val + 1) * 128) 4095, 0]
    ∧ win0_3.index t = ![t.val * 64 - 1, 0] ∧ win0_4.index t = ![t.val, 0] ∧ win0_5.index t = ![(t.val + 1) * 64, 0]
    ∧ win0_6.index t = ![t.val * 64 - 1, 0] ∧ win0_7.index t = ![t.val, 0] ∧ win0_8.index t = ![(t.val + 1) * 64, 0]
    ∧ win0_9.index t = ![0, 0] ∧ win0_10.index t = ![1, 0] ∧ win0_11.index t = ![0, 0] ∧ win0_12.index t = ![0, 0]
    ∧ win0_13.index t = ![0, 1] ∧ win0_14.index t = ![0, 0] ∧ win0_15.index t = ![0, 0] ∧ win0_16.index t = ![0, 0]
    ∧ win0_17.index t = ![0, 0] ∧ win0_18.index t = ![t.val, 0] :=
  (by decide +kernel : ∀ t : Fin grid0.N, _)

/-- The neighbour tests as facts about the tile's number. -/
theorem flags : ∀ t : Fin cfg0.N,
    (t.val % 16 = 0 → hasPrev 16#32 (BitVec.ofNat 32 (grid0.coords t 0).val) = 0#1)
    ∧ (t.val % 16 ≠ 0 → hasPrev 16#32 (BitVec.ofNat 32 (grid0.coords t 0).val) = 1#1)
    ∧ (t.val % 16 = 15 → hasNext 16#32 15#32 (BitVec.ofNat 32 (grid0.coords t 0).val) = 0#1)
    ∧ (t.val % 16 ≠ 15 → hasNext 16#32 15#32 (BitVec.ofNat 32 (grid0.coords t 0).val) = 1#1) :=
  (by decide +kernel : ∀ t : Fin grid0.N, _)

variable (m : (ℓ : Loc nD τ sig) → Buf (Elt Ideal) ℓ) (c : Dev nD)

theorem blk1 (t : Fin cfg0.N) (y k : Fin 1024) :
    iblk m c 1 t (ix2 y k) = (shapeCast S32768x1024 (m ((c.tc : Thread nD τ).loc main_arg0) : FVec Ideal S2x16384x1024 .f32) shapeCasts_S2x16384x1024_S32768x1024 : FVec Ideal S32768x1024 .f32) (ix2 ⟨t.val * 1024 + y, by have := t.isLt; have : cfg0.N = 32 := rfl; omega⟩ k) := by
  have := t.isLt
  have : cfg0.N = 32 := rfl
  unfold iblk
  entry_read
  blk_ext [idx t]

theorem blk0 (t : Fin cfg0.N) (h : t.val ≠ 0) (k : Fin 1024) :
    iblk m c 0 t (ix2 7 k) = (shapeCast S32768x1024 (m ((c.tc : Thread nD τ).loc main_arg0) : FVec Ideal S2x16384x1024 .f32) shapeCasts_S2x16384x1024_S32768x1024 : FVec Ideal S32768x1024 .f32) (ix2 ⟨t.val * 1024 - 1, by have := t.isLt; have : cfg0.N = 32 := rfl; omega⟩ k) := by
  have := t.isLt
  have : cfg0.N = 32 := rfl
  unfold iblk
  entry_read
  blk_ext [idx t]

theorem blk2 (t : Fin cfg0.N) (h : t.val ≠ 31) (k : Fin 1024) :
    iblk m c 2 t (ix2 0 k) = (shapeCast S32768x1024 (m ((c.tc : Thread nD τ).loc main_arg0) : FVec Ideal S2x16384x1024 .f32) shapeCasts_S2x16384x1024_S32768x1024 : FVec Ideal S32768x1024 .f32) (ix2 ⟨t.val * 1024 + 1024, by have := t.isLt; have : cfg0.N = 32 := rfl; omega⟩ k) := by
  have := t.isLt
  have : cfg0.N = 32 := rfl
  unfold iblk
  entry_read
  blk_ext [idx t]

theorem blk4 (t : Fin cfg0.N) (y : Fin 1024) (k : Fin 512) :
    iblk m c 4 t (ix2 y k) = (m ((c.tc : Thread nD τ).loc main_arg1) : FVec Ideal S65536x512 .f32) (ix2 ⟨t.val * 1024 + y, by have := t.isLt; have : cfg0.N = 32 := rfl; omega⟩ k) := by
  have := t.isLt
  have : cfg0.N = 32 := rfl
  unfold iblk
  entry_read
  blk_ext [idx t]

theorem blk3 (t : Fin cfg0.N) (h : t.val ≠ 0) (k : Fin 512) :
    iblk m c 3 t (ix2 15 k) = (m ((c.tc : Thread nD τ).loc main_arg1) : FVec Ideal S65536x512 .f32) (ix2 ⟨t.val * 1024 - 1, by have := t.isLt; have : cfg0.N = 32 := rfl; omega⟩ k) := by
  have := t.isLt
  have : cfg0.N = 32 := rfl
  unfold iblk
  entry_read
  blk_ext [idx t]

theorem blk5 (t : Fin cfg0.N) (h : t.val ≠ 31) (k : Fin 512) :
    iblk m c 5 t (ix2 0 k) = (m ((c.tc : Thread nD τ).loc main_arg1) : FVec Ideal S65536x512 .f32) (ix2 ⟨t.val * 1024 + 1024, by have := t.isLt; have : cfg0.N = 32 := rfl; omega⟩ k) := by
  have := t.isLt
  have : cfg0.N = 32 := rfl
  unfold iblk
  entry_read
  blk_ext [idx t]

theorem blk7 (t : Fin cfg0.N) (y : Fin 1024) (k : Fin 512) :
    iblk m c 7 t (ix2 y k) = (m ((c.tc : Thread nD τ).loc main_arg2) : FVec Ideal S65536x512 .f32) (ix2 ⟨t.val * 1024 + y, by have := t.isLt; have : cfg0.N = 32 := rfl; omega⟩ k) := by
  have := t.isLt
  have : cfg0.N = 32 := rfl
  unfold iblk
  entry_read
  blk_ext [idx t]

theorem blk6 (t : Fin cfg0.N) (h : t.val ≠ 0) (k : Fin 512) :
    iblk m c 6 t (ix2 15 k) = (m ((c.tc : Thread nD τ).loc main_arg2) : FVec Ideal S65536x512 .f32) (ix2 ⟨t.val * 1024 - 1, by have := t.isLt; have : cfg0.N = 32 := rfl; omega⟩ k) := by
  have := t.isLt
  have : cfg0.N = 32 := rfl
  unfold iblk
  entry_read
  blk_ext [idx t]

theorem blk8 (t : Fin cfg0.N) (h : t.val ≠ 31) (k : Fin 512) :
    iblk m c 8 t (ix2 0 k) = (m ((c.tc : Thread nD τ).loc main_arg2) : FVec Ideal S65536x512 .f32) (ix2 ⟨t.val * 1024 + 1024, by have := t.isLt; have : cfg0.N = 32 := rfl; omega⟩ k) := by
  have := t.isLt
  have : cfg0.N = 32 := rfl
  unfold iblk
  entry_read
  blk_ext [idx t]

theorem blk9 (t : Fin cfg0.N) (k : Fin 512) (j : Fin 1024) :
    iblk m c 9 t (ix2 k j) = (m ((c.tc : Thread nD τ).loc main_arg3) : FVec Ideal S1x1024x1024 .f32) (ix3 0 ⟨k, by omega⟩ j) := by
  unfold iblk
  entry_read
  blk_simp [idx t]
  pointwise []
  blk_ext [idx t]

theorem blk10 (t : Fin cfg0.N) (k : Fin 512) (j : Fin 1024) :
    iblk m c 10 t (ix2 k j) = (m ((c.tc : Thread nD τ).loc main_arg3) : FVec Ideal S1x1024x1024 .f32) (ix3 0 ⟨k + 512, by omega⟩ j) := by
  unfold iblk
  entry_read
  blk_simp [idx t]
  pointwise []
  blk_ext [idx t]

theorem blk11 (t : Fin cfg0.N) (j : Fin 1024) :
    iblk m c 11 t (ix2 0 j) = (m ((c.tc : Thread nD τ).loc main_arg4) : FVec Ideal S1x1024 .f32) (ix2 0 j) := by
  unfold iblk
  entry_read
  blk_simp [idx t]
  pointwise []
  blk_ext [idx t]

theorem blk12 (t : Fin cfg0.N) (k : Fin 1024) (j : Fin 2816) :
    iblk m c 12 t (ix2 k j) = (m ((c.tc : Thread nD τ).loc main_arg5) : FVec Ideal S1x1024x5632 .f32) (ix3 0 k ⟨j, by omega⟩) := by
  unfold iblk
  entry_read
  blk_simp [idx t]
  pointwise []
  blk_ext [idx t]

theorem blk13 (t : Fin cfg0.N) (k : Fin 1024) (j : Fin 2816) :
    iblk m c 13 t (ix2 k j) = (m ((c.tc : Thread nD τ).loc main_arg5) : FVec Ideal S1x1024x5632 .f32) (ix3 0 k ⟨j + 2816, by omega⟩) := by
  unfold iblk
  entry_read
  blk_simp [idx t]
  pointwise []
  blk_ext [idx t]

theorem blk14 (t : Fin cfg0.N) (k : Fin 3) (j : Fin 2816) :
    iblk m c 14 t (ix2 k j) = (m ((c.tc : Thread nD τ).loc main_arg6) : FVec Ideal S1x3x2816 .f32) (ix3 0 k j) := by
  unfold iblk
  entry_read
  blk_simp [idx t]
  pointwise []
  blk_ext [idx t]

theorem blk15 (t : Fin cfg0.N) (j : Fin 2816) :
    iblk m c 15 t (ix2 0 j) = (m ((c.tc : Thread nD τ).loc main_arg7) : FVec Ideal S1x2816 .f32) (ix2 0 j) := by
  unfold iblk
  entry_read
  blk_simp [idx t]
  pointwise []
  blk_ext [idx t]

theorem blk16 (t : Fin cfg0.N) (k : Fin 2816) (j : Fin 1024) :
    iblk m c 16 t (ix2 k j) = (m ((c.tc : Thread nD τ).loc main_arg8) : FVec Ideal S1x2816x1024 .f32) (ix3 0 k j) := by
  unfold iblk
  entry_read
  blk_simp [idx t]
  pointwise []
  blk_ext [idx t]

theorem blk17 (t : Fin cfg0.N) (j : Fin 1024) :
    iblk m c 17 t (ix2 0 j) = (m ((c.tc : Thread nD τ).loc main_arg9) : FVec Ideal S1024 .f32) (ix1 j) := by
  unfold iblk
  entry_read
  blk_simp [idx t]
  pointwise []
  blk_ext [idx t]

/-- The residual stream of the reference over the kernel's arrays. -/
def RS : FVec Ideal S2x16384x1024 .f32 :=
  Cert.ReferenceIdeal.Ffn.resid (m ((c.tc : Thread nD τ).loc main_arg0) : FVec Ideal S2x16384x1024 .f32) (m ((c.tc : Thread nD τ).loc main_arg1) : FVec Ideal S65536x512 .f32) (m ((c.tc : Thread nD τ).loc main_arg2) : FVec Ideal S65536x512 .f32) (m ((c.tc : Thread nD τ).loc main_arg3) : FVec Ideal S1x1024x1024 .f32)

/-- Its normalised projection. -/
def US : FVec Ideal Cert.ReferenceIdeal.S2x16384x5632 .f32 :=
  Cert.ReferenceIdeal.Ffn.proj (Cert.ReferenceIdeal.Ffn.norm (RS m c) (shapeCast S1024 (m ((c.tc : Thread nD τ).loc main_arg4) : FVec Ideal S1x1024 .f32) Cert.ReferenceIdeal.Gen.shapeCasts_S1x1024_S1024)) (m ((c.tc : Thread nD τ).loc main_arg5) : FVec Ideal S1x1024x5632 .f32)

/-- The reference's result over the kernel's arrays. -/
def REF : FVec Ideal S32768x1024 .f32 :=
  Cert.ReferenceIdeal.Ffn.tail (RS m c) (US m c) (m ((c.tc : Thread nD τ).loc main_arg6) : FVec Ideal S1x3x2816 .f32) (m ((c.tc : Thread nD τ).loc main_arg7) : FVec Ideal S1x2816 .f32) (m ((c.tc : Thread nD τ).loc main_arg8) : FVec Ideal S1x2816x1024 .f32) (m ((c.tc : Thread nD τ).loc main_arg9) : FVec Ideal S1024 .f32)

/-- A row of the tile is a row of the residual stream. -/
theorem own_eq (t : Fin cfg0.N) (y : Fin 1024) (s : Fin 2) (τ : Fin 16384) (hn : s.val * 16384 + τ = t.val * 1024 + y) :
    own (iblk m c 1 t) (iblk m c 4 t) (iblk m c 7 t) (iblk m c 9 t) (iblk m c 10 t) y = fun k => RS m c (ix3 s τ k) := by
  have ht := t.isLt
  have hN : cfg0.N = 32 := rfl
  funext k
  have e : (⟨s * 16384 + τ, by omega⟩ : Fin 65536) = ⟨t.val * 1024 + y, by omega⟩ := Fin.ext hn
  rw [RS, Cert.ReferenceIdeal.Ffn.resid_at, own, res]
  simp only [blk1, blk4, blk7, blk9, blk10]
  rw [Cert.ReferenceIdeal.Ffn.cast_at, e]
  have e1 : (⟨(t.val * 1024 + y) / 16384, by omega⟩ : Fin 2) = s := Fin.ext (by dsimp only; omega)
  have e2 : (⟨(t.val * 1024 + y) % 16384, by omega⟩ : Fin 16384) = τ := Fin.ext (by dsimp only; omega)
  rw [e1, e2]

/-- The last row of the tile before is the row before. -/
theorem prev_eq (t : Fin cfg0.N) (h : t.val ≠ 0) (s : Fin 2) (τ : Fin 16384) (hn : s.val * 16384 + τ = t.val * 1024 - 1) :
    nbr (iblk m c 0 t) (iblk m c 3 t) (iblk m c 6 t) (iblk m c 9 t) (iblk m c 10 t) 7 15 = fun k => RS m c (ix3 s τ k) := by
  have ht := t.isLt
  have hN : cfg0.N = 32 := rfl
  funext k
  have e : (⟨s * 16384 + τ, by omega⟩ : Fin 65536) = ⟨t.val * 1024 - 1, by omega⟩ := Fin.ext hn
  rw [RS, Cert.ReferenceIdeal.Ffn.resid_at, nbr, res]
  simp only [blk0 m c t h, blk3 m c t h, blk6 m c t h, blk9, blk10]
  rw [Cert.ReferenceIdeal.Ffn.cast_at, e]
  have e1 : (⟨(t.val * 1024 - 1) / 16384, by omega⟩ : Fin 2) = s := Fin.ext (by dsimp only; omega)
  have e2 : (⟨(t.val * 1024 - 1) % 16384, by omega⟩ : Fin 16384) = τ := Fin.ext (by dsimp only; omega)
  rw [e1, e2]

/-- The first row of the tile after is the row after. -/
theorem next_eq (t : Fin cfg0.N) (h : t.val ≠ 31) (s : Fin 2) (τ : Fin 16384) (hn : s.val * 16384 + τ = t.val * 1024 + 1024) :
    nbr (iblk m c 2 t) (iblk m c 5 t) (iblk m c 8 t) (iblk m c 9 t) (iblk m c 10 t) 0 0 = fun k => RS m c (ix3 s τ k) := by
  have ht := t.isLt
  have hN : cfg0.N = 32 := rfl
  funext k
  have e : (⟨s * 16384 + τ, by omega⟩ : Fin 65536) = ⟨t.val * 1024 + 1024, by omega⟩ := Fin.ext hn
  rw [RS, Cert.ReferenceIdeal.Ffn.resid_at, nbr, res]
  simp only [blk2 m c t h, blk5 m c t h, blk8 m c t h, blk9, blk10]
  rw [Cert.ReferenceIdeal.Ffn.cast_at, e]
  have e1 : (⟨(t.val * 1024 + 1024) / 16384, by omega⟩ : Fin 2) = s := Fin.ext (by dsimp only; omega)
  have e2 : (⟨(t.val * 1024 + 1024) % 16384, by omega⟩ : Fin 16384) = τ := Fin.ext (by dsimp only; omega)
  rw [e1, e2]

/-- The gate half's projection of a residual row. -/
theorem lo_eq (t : Fin cfg0.N) (s : Fin 2) (r : Fin 16384) (f : Fin 2816) :
    rup (fun k => RS m c (ix3 s r k)) (fun k => iblk m c 11 t (ix2 0 k)) (fun k f => iblk m c 12 t (ix2 k f)) f
      = US m c (ix3 s r ⟨f, by omega⟩) := by
  rw [US, Cert.ReferenceIdeal.Ffn.proj_lo]
  simp only [blk11, blk12]
  have e : ∀ k : Fin 1024, (shapeCast S1024 (m ((c.tc : Thread nD τ).loc main_arg4) : FVec Ideal S1x1024 .f32) Cert.ReferenceIdeal.Gen.shapeCasts_S1x1024_S1024 : FVec Ideal S1024 .f32) (ix1 k)
      = (m ((c.tc : Thread nD τ).loc main_arg4) : FVec Ideal S1x1024 .f32) (ix2 0 k) := fun k => Cert.ReferenceIdeal.Ffn.row_at _ k
  exact congrArg (fun g => rup _ g _ f) (funext fun k => (e k).symm)

/-- The other half's. -/
theorem hi_eq (t : Fin cfg0.N) (s : Fin 2) (r : Fin 16384) (f : Fin 2816) :
    rup (fun k => RS m c (ix3 s r k)) (fun k => iblk m c 11 t (ix2 0 k)) (fun k f => iblk m c 13 t (ix2 k f)) f
      = US m c (ix3 s r ⟨f + 2816, by omega⟩) := by
  rw [US, Cert.ReferenceIdeal.Ffn.proj_hi]
  simp only [blk11, blk13]
  have e : ∀ k : Fin 1024, (shapeCast S1024 (m ((c.tc : Thread nD τ).loc main_arg4) : FVec Ideal S1x1024 .f32) Cert.ReferenceIdeal.Gen.shapeCasts_S1x1024_S1024 : FVec Ideal S1024 .f32) (ix1 k)
      = (m ((c.tc : Thread nD τ).loc main_arg4) : FVec Ideal S1x1024 .f32) (ix2 0 k) := fun k => Cert.ReferenceIdeal.Ffn.row_at _ k
  exact congrArg (fun g => rup _ g _ f) (funext fun k => (e k).symm)

/-- A tile's row is the reference's row. -/
theorem tile_ref (t : Fin cfg0.N) (y k : Fin 1024) :
    tile (grid0.coords t) (iblk m c 0 t) (iblk m c 2 t) (iblk m c 1 t) (iblk m c 3 t) (iblk m c 5 t) (iblk m c 4 t) (iblk m c 6 t)
        (iblk m c 8 t) (iblk m c 7 t) (iblk m c 9 t) (iblk m c 10 t) (iblk m c 11 t) (iblk m c 12 t) (iblk m c 13 t)
        (fun f => iblk m c 14 t (ix2 0 f)) (fun f => iblk m c 14 t (ix2 1 f)) (fun f => iblk m c 14 t (ix2 2 f))
        (iblk m c 15 t) (iblk m c 16 t) (iblk m c 17 t) y k
      = REF m c (ix2 ⟨t.val * 1024 + y, by have := t.isLt; have : cfg0.N = 32 := rfl; omega⟩ k) := by
  have ht := t.isLt
  have hN : cfg0.N = 32 := rfl
  obtain ⟨p0, p1, n0, n1⟩ := flags t
  obtain ⟨s, hs⟩ : ∃ s : Fin 2, s.val = (t.val * 1024 + y) / 16384 := ⟨⟨_, by omega⟩, rfl⟩
  obtain ⟨τ, hτ⟩ : ∃ τ : Fin 16384, τ.val = (t.val * 1024 + y) % 16384 := ⟨⟨_, by omega⟩, rfl⟩
  rw [REF, Cert.ReferenceIdeal.Ffn.tail_at _ _ _ _ _ _ _ _ s τ (by dsimp only; omega), tile]
  have ho := own_eq m c t y s τ (by omega)
  refine fin_gate_congr k ho (funext fun f => ?_) (funext fun f => ?_) (funext fun f => ?_) (funext fun f => ?_)
    (funext fun f => blk14 m c t 0 f) (funext fun f => blk14 m c t 1 f) (funext fun f => blk14 m c t 2 f)
    (funext fun f => blk15 m c t f) (funext fun f => funext fun k => blk16 m c t f k) (funext fun k => blk17 m c t k)
  · by_cases h : y.val = 0
    · rw [dif_pos h]
      by_cases h' : t.val % 16 = 0
      · rw [p0 h', halo_zero, dif_neg (by omega)]
      · rw [p1 h', halo_one, dif_pos (by omega), prev_eq m c t (by omega) s ⟨τ - 1, by omega⟩ (by dsimp only; omega), lo_eq]
    · rw [dif_neg h, dif_pos (by omega), own_eq m c t _ s ⟨τ - 1, by omega⟩ (by dsimp only; omega), lo_eq]
  · rw [ho, lo_eq]
  · by_cases h : y.val = 1023
    · rw [dif_pos h]
      by_cases h' : t.val % 16 = 15
      · rw [n0 h', halo_zero, dif_neg (by omega)]
      · rw [n1 h', halo_one, dif_pos (by omega), next_eq m c t (by omega) s ⟨τ + 1, by omega⟩ (by dsimp only; omega), lo_eq]
    · rw [dif_neg h, dif_pos (by omega), own_eq m c t _ s ⟨τ + 1, by omega⟩ (by dsimp only; omega), lo_eq]
  · rw [ho, hi_eq]

/-- The final array is the reference's result. -/
theorem final : (dats m 0 c).arrAt 18 (cfgs 0).N = REF m c := by
  refine (dats m 0 c).arrAt_eq_of_covers 18 _ (by decide +kernel) fun t _ y => ?_
  blk_simp
  rw [after0_18]
  refine (out_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y).trans ?_
  refine (tile_ref m c t (y 0) (y 1)).trans ?_
  blk_ext [idx t]

end Cert.KernelIdeal.Ffn

end
-- ==== Proof.FfnClaim.lean ====
module

public import proofs.«01_k».proof.Defs
public import proofs.«01_k».proof.Proof.FfnValue
public import Idealize.ShloMosaic.Lib.Claim

/-! The closing half of the layer on the prompt batch: kernel and reference have one result. -/

@[expose] public section

set_option maxRecDepth 16384

noncomputable section

open Idealize.ShloMosaic Idealize.SL.Sem

namespace Cert.KernelIdeal.Ffn

theorem algebraic : Cert.algebraic_KernelIdeal_ReferenceIdeal (hKernelIdeal := Cert.KernelIdeal.Gen.facts) (hReferenceIdeal := Cert.ReferenceIdeal.Gen.facts) := by
  pair_intro
  · run_from Cert.KernelIdeal.Gen.run_main m g
    exact hc.1 18
  · run_from Cert.ReferenceIdeal.Value.run m' g'
    obtain ⟨h0, h1, h2, h3, h4, h5, h6, h7, h8, h9⟩ := hagree c
    rw [Cert.ReferenceIdeal.Ffn.res_eq, h0, h1, h2, h3, h4, h5, h6, h7, h8, h9]
    exact (final m c).symm

/-- The reference runs, leaves its arguments unchanged, and has no counters that could end other than zero. -/
theorem frame_reference : Cert.quiescent_ReferenceIdeal (hReferenceIdeal := Cert.ReferenceIdeal.Gen.facts) := fun m ρ _ =>
  θ_run_mono (Cert.ReferenceIdeal.Value.run m ρ) fun _ h => ⟨fun c => (h c).2, sem_eq_zero_of_no_sems (by decide) _⟩

end Cert.KernelIdeal.Ffn

end
-- ==== Proof.FfnKernel2.lean ====
module

public import proofs.«01_k».proof.Proof.Gen.Kernel2Ideal.Skeleton
public import proofs.«01_k».proof.Proof.FfnMath
public import Idealize.ShloMosaic.Lib.Pipeline.ValueKit

/-! What the body's payloads are, entry by entry, over any loaded vectors. -/

@[expose] public section

set_option maxRecDepth 16384

noncomputable section

open Idealize.ShloMosaic

namespace Cert.Kernel2Ideal.Ffn

open Cert.Kernel2Ideal Cert.Kernel2Ideal.Gen Cert.Ffn

/-- The residual rows of the extended block: `x + ya · wa + yb · wb`. -/
theorem resid_at (v10 v11 : BitVec 1) (X : FVec Ideal S1040x1024 .f32) (a b : FVec Ideal S8x512 .f32) (A : FVec Ideal S1024x512 .bf16)
    (p q : FVec Ideal S16x512 .bf16) (B : FVec Ideal S1024x512 .bf16) (wa wb : FVec Ideal S512x1024 .bf16) (r : Fin 1040) (c : Fin 1024) :
    k0_pay10 (F := Ideal) X (k0_pay5 a b A) (k0_pay6 v10 v11 p q B) (k0_pay7 v10 v11 X a b A p q B wa wb)
      (k0_pay8 X a b A wa) (k0_pay9 v10 v11 p q B) wb wa wb wa wb (ix2 r c)
      = X (ix2 r c) + ∑ k : Fin 512, k0_pay5 (F := Ideal) a b A (ix2 r k) * wa (ix2 k c)
        + ∑ k : Fin 512, k0_pay6 (F := Ideal) v10 v11 p q B (ix2 r k) * wb (ix2 k c) := by
  pointwise [k0_pay10, k0_pay7, k0_pay8, k0_pay9]
  split
  · rfl
  · have e1 : ∀ h, (⟨272 + (↑r - 272), h⟩ : Fin 1040) = r := fun _ => Fin.ext (by dsimp only; omega)
    split
    · simp only [e1]
    · have e2 : ∀ h, (⟨528 + (↑r - 272 - 256), h⟩ : Fin 1040) = r := fun _ => Fin.ext (by dsimp only; omega)
      split
      · simp only [e2]
      · have e3 : ∀ h, (⟨784 + (↑r - 272 - 256 - 256), h⟩ : Fin 1040) = r := fun _ => Fin.ext (by dsimp only; omega)
        simp only [e3]

/-- The normalised rows. -/
theorem norm_at (X : FVec Ideal S1040x1024 .f32) (YA YB : FVec Ideal S1040x512 .bf16) (v67 : FVec Ideal S272x1024 .f32)
    (v73 : FVec Ideal S256x1024 .f32) (v74 : FVec Ideal S256x512 .bf16) (w1 w2 w3 w4 w5 : FVec Ideal S512x1024 .bf16)
    (g : FVec Ideal S1x1024 .f32) (r : Fin 1040) (c : Fin 1024) :
    k0_pay11 (F := Ideal) X YA YB v67 v73 v74 w1 w2 w3 w4 w5 g (ix2 r c)
      = nrm (fun c => k0_pay10 (F := Ideal) X YA YB v67 v73 v74 w1 w2 w3 w4 w5 (ix2 r c)) (fun c => g (ix2 0 c)) c := by
  pointwise [k0_pay11, nrm]

/-- The gated rows, from the normalised ones. -/
theorem gate_at (H : FVec Ideal S1040x1024 .f32) (wa wb : FVec Ideal S1024x2816 .bf16) (c0 c1 c2 cb : FVec Ideal S1x2816 .f32)
    (y : Fin 1024) (f : Fin 2816) :
    k0_pay13 (F := Ideal) H H wa wb c0 c1 c2 cb (ix2 y f)
      = gate (up (fun c => H (ix2 ⟨y + 7, by omega⟩ c)) (fun c f => wa (ix2 c f)))
          (up (fun c => H (ix2 ⟨y + 8, by omega⟩ c)) (fun c f => wa (ix2 c f)))
          (up (fun c => H (ix2 ⟨y + 9, by omega⟩ c)) (fun c f => wa (ix2 c f)))
          (up (fun c => H (ix2 ⟨y + 8, by omega⟩ c)) (fun c f => wb (ix2 c f)))
          (fun f => c0 (ix2 0 f)) (fun f => c1 (ix2 0 f)) (fun f => c2 (ix2 0 f)) (fun f => cb (ix2 0 f)) f := by
  pointwise [k0_pay13, gate, up, gel]
  have e1 : ∀ h, (⟨(8 + ↑y + 1040 - 1) % 1040, h⟩ : Fin 1040) = ⟨y + 7, by omega⟩ := fun _ => Fin.ext (by dsimp only; omega)
  have e2 : ∀ h, (⟨8 + ↑y, h⟩ : Fin 1040) = ⟨y + 8, by omega⟩ := fun _ => Fin.ext (by dsimp only; omega)
  have e3 : ∀ h, (⟨(8 + ↑y + 1040 - 1039) % 1040, h⟩ : Fin 1040) = ⟨y + 9, by omega⟩ := fun _ => Fin.ext (by dsimp only; omega)
  simp only [e1, e2, e3]
  rfl

theorem out0_at (X : FVec Ideal S1040x1024 .f32) (G : FVec Ideal S1024x2816 .bf16) (wd : FVec Ideal S2816x1024 .bf16)
    (gf : FVec Ideal S1x1024 .f32) (r : Fin 256) (c : Fin 1024) :
    k0_pay15 (F := Ideal) G (k0_pay14 X) wd gf (ix2 r c)
      = Cert.Ffn.fin (fun c => X (ix2 ⟨r + 8, by omega⟩ c)) (fun f => G (ix2 ⟨r, by omega⟩ f)) (fun f c => wd (ix2 f c)) (fun c => gf (ix2 0 c)) c := by
  pointwise [k0_pay15, k0_pay14, Cert.Ffn.fin, nrm]
  blk_point []

theorem out1_at (X : FVec Ideal S1040x1024 .f32) (G : FVec Ideal S1024x2816 .bf16) (wd : FVec Ideal S2816x1024 .bf16)
    (gf : FVec Ideal S1x1024 .f32) (r : Fin 256) (c : Fin 1024) :
    k0_pay16 (F := Ideal) X G wd gf (ix2 r c)
      = Cert.Ffn.fin (fun c => X (ix2 ⟨r + 264, by omega⟩ c)) (fun f => G (ix2 ⟨r + 256, by omega⟩ f)) (fun f c => wd (ix2 f c)) (fun c => gf (ix2 0 c)) c := by
  pointwise [k0_pay16, Cert.Ffn.fin, nrm]
  blk_point []

theorem out2_at (X : FVec Ideal S1040x1024 .f32) (G : FVec Ideal S1024x2816 .bf16) (wd : FVec Ideal S2816x1024 .bf16)
    (gf : FVec Ideal S1x1024 .f32) (r : Fin 256) (c : Fin 1024) :
    k0_pay17 (F := Ideal) X G wd gf (ix2 r c)
      = Cert.Ffn.fin (fun c => X (ix2 ⟨r + 520, by omega⟩ c)) (fun f => G (ix2 ⟨r + 512, by omega⟩ f)) (fun f c => wd (ix2 f c)) (fun c => gf (ix2 0 c)) c := by
  pointwise [k0_pay17, Cert.Ffn.fin, nrm]
  blk_point []

theorem out3_at (X : FVec Ideal S1040x1024 .f32) (G : FVec Ideal S1024x2816 .bf16) (wd : FVec Ideal S2816x1024 .bf16)
    (gf : FVec Ideal S1x1024 .f32) (r : Fin 256) (c : Fin 1024) :
    k0_pay1 (F := Ideal) (k0_pay18 X G wd) (k0_pay19 gf) (k0_pay20 X G wd) (ix2 r c)
      = Cert.Ffn.fin (fun c => X (ix2 ⟨r + 776, by omega⟩ c)) (fun f => G (ix2 ⟨r + 768, by omega⟩ f)) (fun f c => wd (ix2 f c)) (fun c => gf (ix2 0 c)) c := by
  pointwise [k0_pay1, k0_pay18, k0_pay19, k0_pay20, Cert.Ffn.fin, nrm]
  blk_point []

/-! The extended blocks' rows: a tile's own rows, and the neighbouring tiles' next to them or zeros. -/

/-- A halo entry: the neighbouring tile's, or zero at the sequence's end. -/
def halo (b : BitVec 1) (v : EReal) : EReal := Scalar.select b v 0

theorem halo_one (v : EReal) : halo 1#1 v = v := rfl

theorem halo_zero (v : EReal) : halo 0#1 v = 0 := rfl

theorem x_here (i : grid0.Coords) (p n : FVec Ideal S8x1024 .f32) (x : FVec Ideal S1024x1024 .f32) (y : Fin 1024) (c : Fin 1024) :
    k0_pay2 (F := Ideal) i p n x (ix2 ⟨y + 8, by omega⟩ c) = x (ix2 y c) := by
  pointwise [k0_pay2]
  rw [dif_neg (by omega), dif_pos (by omega)]
  rfl

theorem x_prev (i : grid0.Coords) (p n : FVec Ideal S8x1024 .f32) (x : FVec Ideal S1024x1024 .f32) (y : Fin 1024) (c : Fin 1024) :
    k0_pay2 (F := Ideal) i p n x (ix2 ⟨y + 7, by omega⟩ c)
      = if h : y.val = 0 then halo (hasPrev 4#32 (BitVec.ofNat 32 (i 0).val)) (p (ix2 7 c)) else x (ix2 ⟨y - 1, by omega⟩ c) := by
  pointwise [k0_pay2]
  by_cases h : y.val = 0
  · rw [dif_pos (by omega), dif_pos h]
    have e : ∀ h', (⟨↑y + 7, h'⟩ : Fin 8) = 7 := fun _ => Fin.ext (by dsimp only; omega)
    rw [e]
    rfl
  · rw [dif_neg (by omega), dif_pos (by omega), dif_neg h]
    have e : ∀ h', (⟨↑y + 7 - 8, h'⟩ : Fin 1024) = ⟨y - 1, by omega⟩ := fun _ => Fin.ext (by dsimp only; omega)
    rw [e]

theorem x_next (i : grid0.Coords) (p n : FVec Ideal S8x1024 .f32) (x : FVec Ideal S1024x1024 .f32) (y : Fin 1024) (c : Fin 1024) :
    k0_pay2 (F := Ideal) i p n x (ix2 ⟨y + 9, by omega⟩ c)
      = if h : y.val = 1023 then halo (hasNext 4#32 3#32 (BitVec.ofNat 32 (i 0).val)) (n (ix2 0 c)) else x (ix2 ⟨(y + 1) % 1024, by omega⟩ c) := by
  pointwise [k0_pay2]
  by_cases h : y.val = 1023
  · rw [dif_neg (by omega), dif_neg (by omega), dif_pos h]
    have e : ∀ h', (⟨↑y + 9 - 8 - 1024, h'⟩ : Fin 8) = 0 := fun _ => Fin.ext (by dsimp only; omega)
    rw [e]
    rfl
  · rw [dif_neg (by omega), dif_pos (by omega), dif_neg h]
    have e : ∀ h', (⟨↑y + 9 - 8, h'⟩ : Fin 1024) = ⟨(y + 1) % 1024, by omega⟩ := fun _ => Fin.ext (by dsimp only; omega)
    rw [e]

theorem a_here (i : grid0.Coords) (p n : FVec Ideal S16x512 .bf16) (x : FVec Ideal S1024x512 .bf16) (y : Fin 1024) (c : Fin 512) :
    k0_pay5 (F := Ideal) (k0_pay3 i p) (k0_pay4 i n) x (ix2 ⟨y + 8, by omega⟩ c) = x (ix2 y c) := by
  pointwise [k0_pay5, k0_pay3, k0_pay4]
  rw [dif_neg (by omega), dif_pos (by omega)]
  rfl

theorem a_prev (i : grid0.Coords) (p n : FVec Ideal S16x512 .bf16) (x : FVec Ideal S1024x512 .bf16) (y : Fin 1024) (c : Fin 512) :
    k0_pay5 (F := Ideal) (k0_pay3 i p) (k0_pay4 i n) x (ix2 ⟨y + 7, by omega⟩ c)
      = if h : y.val = 0 then halo (hasPrev 4#32 (BitVec.ofNat 32 (i 0).val)) (p (ix2 15 c)) else x (ix2 ⟨y - 1, by omega⟩ c) := by
  pointwise [k0_pay5, k0_pay3, k0_pay4]
  by_cases h : y.val = 0
  · rw [dif_pos (by omega), dif_pos h]
    have e : ∀ h', (⟨8 + (↑y + 7), h'⟩ : Fin 16) = 15 := fun _ => Fin.ext (by dsimp only; omega)
    rw [e]
    rfl
  · rw [dif_neg (by omega), dif_pos (by omega), dif_neg h]
    have e : ∀ h', (⟨↑y + 7 - 8, h'⟩ : Fin 1024) = ⟨y - 1, by omega⟩ := fun _ => Fin.ext (by dsimp only; omega)
    rw [e]

theorem a_next (i : grid0.Coords) (p n : FVec Ideal S16x512 .bf16) (x : FVec Ideal S1024x512 .bf16) (y : Fin 1024) (c : Fin 512) :
    k0_pay5 (F := Ideal) (k0_pay3 i p) (k0_pay4 i n) x (ix2 ⟨y + 9, by omega⟩ c)
      = if h : y.val = 1023 then halo (hasNext 4#32 3#32 (BitVec.ofNat 32 (i 0).val)) (n (ix2 0 c)) else x (ix2 ⟨(y + 1) % 1024, by omega⟩ c) := by
  pointwise [k0_pay5, k0_pay3, k0_pay4]
  by_cases h : y.val = 1023
  · rw [dif_neg (by omega), dif_neg (by omega), dif_pos h]
    have e : ∀ h', (⟨↑y + 9 - 8 - 1024, h'⟩ : Fin 16) = 0 := fun _ => Fin.ext (by dsimp only; omega)
    rw [e]
    rfl
  · rw [dif_neg (by omega), dif_pos (by omega), dif_neg h]
    have e : ∀ h', (⟨↑y + 9 - 8, h'⟩ : Fin 1024) = ⟨(y + 1) % 1024, by omega⟩ := fun _ => Fin.ext (by dsimp only; omega)
    rw [e]

theorem b_here (i : grid0.Coords) (p n : FVec Ideal S16x512 .bf16) (x : FVec Ideal S1024x512 .bf16) (y : Fin 1024) (c : Fin 512) :
    k0_pay6 (F := Ideal) (hasPrev 4#32 (BitVec.ofNat 32 (i 0).val)) (hasNext 4#32 3#32 (BitVec.ofNat 32 (i 0).val)) p n x (ix2 ⟨y + 8, by omega⟩ c) = x (ix2 y c) := by
  pointwise [k0_pay6]
  rw [dif_neg (by omega), dif_pos (by omega)]
  rfl

theorem b_prev (i : grid0.Coords) (p n : FVec Ideal S16x512 .bf16) (x : FVec Ideal S1024x512 .bf16) (y : Fin 1024) (c : Fin 512) :
    k0_pay6 (F := Ideal) (hasPrev 4#32 (BitVec.ofNat 32 (i 0).val)) (hasNext 4#32 3#32 (BitVec.ofNat 32 (i 0).val)) p n x (ix2 ⟨y + 7, by omega⟩ c)
      = if h : y.val = 0 then halo (hasPrev 4#32 (BitVec.ofNat 32 (i 0).val)) (p (ix2 15 c)) else x (ix2 ⟨y - 1, by omega⟩ c) := by
  pointwise [k0_pay6]
  by_cases h : y.val = 0
  · rw [dif_pos (by omega), dif_pos h]
    have e : ∀ h', (⟨8 + (↑y + 7), h'⟩ : Fin 16) = 15 := fun _ => Fin.ext (by dsimp only; omega)
    rw [e]
    rfl
  · rw [dif_neg (by omega), dif_pos (by omega), dif_neg h]
    have e : ∀ h', (⟨↑y + 7 - 8, h'⟩ : Fin 1024) = ⟨y - 1, by omega⟩ := fun _ => Fin.ext (by dsimp only; omega)
    rw [e]

theorem b_next (i : grid0.Coords) (p n : FVec Ideal S16x512 .bf16) (x : FVec Ideal S1024x512 .bf16) (y : Fin 1024) (c : Fin 512) :
    k0_pay6 (F := Ideal) (hasPrev 4#32 (BitVec.ofNat 32 (i 0).val)) (hasNext 4#32 3#32 (BitVec.ofNat 32 (i 0).val)) p n x (ix2 ⟨y + 9, by omega⟩ c)
      = if h : y.val = 1023 then halo (hasNext 4#32 3#32 (BitVec.ofNat 32 (i 0).val)) (n (ix2 0 c)) else x (ix2 ⟨(y + 1) % 1024, by omega⟩ c) := by
  pointwise [k0_pay6]
  by_cases h : y.val = 1023
  · rw [dif_neg (by omega), dif_neg (by omega), dif_pos h]
    have e : ∀ h', (⟨↑y + 9 - 8 - 1024, h'⟩ : Fin 16) = 0 := fun _ => Fin.ext (by dsimp only; omega)
    rw [e]
    rfl
  · rw [dif_neg (by omega), dif_pos (by omega), dif_neg h]
    have e : ∀ h', (⟨↑y + 9 - 8, h'⟩ : Fin 1024) = ⟨(y + 1) % 1024, by omega⟩ := fun _ => Fin.ext (by dsimp only; omega)
    rw [e]

/-- The residual rows of the extended block, from the loaded blocks. -/
def ext (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16) : FVec Ideal S1040x1024 .f32 :=
  k0_pay10 (F := Ideal) (k0_pay2 i x0 x2 x1) (k0_pay5 (k0_pay3 i x3) (k0_pay4 i x5) x4)
    (k0_pay6 (hasPrev 4#32 (BitVec.ofNat 32 (i 0).val)) (hasNext 4#32 3#32 (BitVec.ofNat 32 (i 0).val)) x6 x8 x7)
    (k0_pay7 (hasPrev 4#32 (BitVec.ofNat 32 (i 0).val)) (hasNext 4#32 3#32 (BitVec.ofNat 32 (i 0).val)) (k0_pay2 i x0 x2 x1) (k0_pay3 i x3) (k0_pay4 i x5) x4 x6 x8 x7 wa wb)
    (k0_pay8 (k0_pay2 i x0 x2 x1) (k0_pay3 i x3) (k0_pay4 i x5) x4 wa)
    (k0_pay9 (hasPrev 4#32 (BitVec.ofNat 32 (i 0).val)) (hasNext 4#32 3#32 (BitVec.ofNat 32 (i 0).val)) x6 x8 x7) wb wa wb wa wb

/-- The gated rows of the tile, from the loaded blocks. -/
def gtd (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16)
    (g : FVec Ideal S1x1024 .f32) (w1 w2 : FVec Ideal S1024x2816 .bf16) (c0 c1 c2 cb : FVec Ideal S1x2816 .f32) : FVec Ideal S1024x2816 .bf16 :=
  k0_pay13 (F := Ideal) (k0_pay11 (k0_pay2 i x0 x2 x1) (k0_pay5 (k0_pay3 i x3) (k0_pay4 i x5) x4)
    (k0_pay6 (hasPrev 4#32 (BitVec.ofNat 32 (i 0).val)) (hasNext 4#32 3#32 (BitVec.ofNat 32 (i 0).val)) x6 x8 x7)
    (k0_pay7 (hasPrev 4#32 (BitVec.ofNat 32 (i 0).val)) (hasNext 4#32 3#32 (BitVec.ofNat 32 (i 0).val)) (k0_pay2 i x0 x2 x1) (k0_pay3 i x3) (k0_pay4 i x5) x4 x6 x8 x7 wa wb)
    (k0_pay8 (k0_pay2 i x0 x2 x1) (k0_pay3 i x3) (k0_pay4 i x5) x4 wa)
    (k0_pay9 (hasPrev 4#32 (BitVec.ofNat 32 (i 0).val)) (hasNext 4#32 3#32 (BitVec.ofNat 32 (i 0).val)) x6 x8 x7) wb wa wb wa wb g)
    (k0_pay12 (k0_pay2 i x0 x2 x1) (k0_pay5 (k0_pay3 i x3) (k0_pay4 i x5) x4)
    (k0_pay6 (hasPrev 4#32 (BitVec.ofNat 32 (i 0).val)) (hasNext 4#32 3#32 (BitVec.ofNat 32 (i 0).val)) x6 x8 x7)
    (k0_pay7 (hasPrev 4#32 (BitVec.ofNat 32 (i 0).val)) (hasNext 4#32 3#32 (BitVec.ofNat 32 (i 0).val)) (k0_pay2 i x0 x2 x1) (k0_pay3 i x3) (k0_pay4 i x5) x4 x6 x8 x7 wa wb)
    (k0_pay8 (k0_pay2 i x0 x2 x1) (k0_pay3 i x3) (k0_pay4 i x5) x4 wa)
    (k0_pay9 (hasPrev 4#32 (BitVec.ofNat 32 (i 0).val)) (hasNext 4#32 3#32 (BitVec.ofNat 32 (i 0).val)) x6 x8 x7) wb wa wb wa wb g) w1 w2 c0 c1 c2 cb

/-- The residual row `y` of the tile's own rows. -/
def own (x1 : FVec Ideal S1024x1024 .f32) (x4 x7 : FVec Ideal S1024x512 .bf16) (wa wb : FVec Ideal S512x1024 .bf16) (y : Fin 1024) :
    Fin 1024 → EReal :=
  res (fun c => x1 (ix2 y c)) (fun k => x4 (ix2 y k)) (fun k => x7 (ix2 y k)) (fun k c => wa (ix2 k c)) (fun k c => wb (ix2 k c))

/-- The residual row of a neighbouring tile's block, read at row `r` (`r'` for the activations). -/
def nbr (x0 : FVec Ideal S8x1024 .f32) (x3 x6 : FVec Ideal S16x512 .bf16) (wa wb : FVec Ideal S512x1024 .bf16) (r : Fin 8) (r' : Fin 16) :
    Fin 1024 → EReal :=
  res (fun c => x0 (ix2 r c)) (fun k => x3 (ix2 r' k)) (fun k => x6 (ix2 r' k)) (fun k c => wa (ix2 k c)) (fun k c => wb (ix2 k c))

theorem ext_eq (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16) (r : Fin 1040) (c : Fin 1024) :
    ext i x0 x2 x1 x3 x5 x4 x6 x8 x7 wa wb (ix2 r c)
      = res (fun c => k0_pay2 (F := Ideal) i x0 x2 x1 (ix2 r c)) (fun k => k0_pay5 (F := Ideal) (k0_pay3 i x3) (k0_pay4 i x5) x4 (ix2 r k))
          (fun k => k0_pay6 (F := Ideal) (hasPrev 4#32 (BitVec.ofNat 32 (i 0).val)) (hasNext 4#32 3#32 (BitVec.ofNat 32 (i 0).val)) x6 x8 x7 (ix2 r k))
          (fun k c => wa (ix2 k c)) (fun k c => wb (ix2 k c)) c := by
  rw [ext, resid_at, res]

theorem ext_here (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16) (y : Fin 1024) :
    (fun c => ext i x0 x2 x1 x3 x5 x4 x6 x8 x7 wa wb (ix2 ⟨y + 8, by omega⟩ c)) = own x1 x4 x7 wa wb y := by
  funext c
  rw [ext_eq, own]
  simp only [x_here, a_here, b_here]

theorem ext_prev (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16) (g : Fin 1024 → EReal) (w : Fin 1024 → Fin 2816 → EReal) (y : Fin 1024) (f : Fin 2816) :
    rup (fun c => ext i x0 x2 x1 x3 x5 x4 x6 x8 x7 wa wb (ix2 ⟨y + 7, by omega⟩ c)) g w f
      = if h : y.val = 0 then halo (hasPrev 4#32 (BitVec.ofNat 32 (i 0).val)) (rup (nbr x0 x3 x6 wa wb 7 15) g w f)
        else rup (own x1 x4 x7 wa wb ⟨y - 1, by omega⟩) g w f := by
  have e : (fun c => ext i x0 x2 x1 x3 x5 x4 x6 x8 x7 wa wb (ix2 ⟨y + 7, by omega⟩ c)) = _ := funext fun c => ext_eq i x0 x2 x1 x3 x5 x4 x6 x8 x7 wa wb _ c
  rw [e]
  simp only [x_prev, a_prev, b_prev]
  by_cases h : y.val = 0
  · simp only [dif_pos h]
    generalize hasPrev 4#32 (BitVec.ofNat 32 (i 0).val) = b
    rcases bit_cases b with rfl | rfl
    · simp only [halo_zero]
      exact (congrArg (fun r => rup r g w f) (res_zero _ _)).trans (rup_zero g w f)
    · simp only [halo_one]
      rfl
  · simp only [dif_neg h]
    rfl

theorem ext_next (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16) (g : Fin 1024 → EReal) (w : Fin 1024 → Fin 2816 → EReal) (y : Fin 1024) (f : Fin 2816) :
    rup (fun c => ext i x0 x2 x1 x3 x5 x4 x6 x8 x7 wa wb (ix2 ⟨y + 9, by omega⟩ c)) g w f
      = if h : y.val = 1023 then halo (hasNext 4#32 3#32 (BitVec.ofNat 32 (i 0).val)) (rup (nbr x2 x5 x8 wa wb 0 0) g w f)
        else rup (own x1 x4 x7 wa wb ⟨(y + 1) % 1024, by omega⟩) g w f := by
  have e : (fun c => ext i x0 x2 x1 x3 x5 x4 x6 x8 x7 wa wb (ix2 ⟨y + 9, by omega⟩ c)) = _ := funext fun c => ext_eq i x0 x2 x1 x3 x5 x4 x6 x8 x7 wa wb _ c
  rw [e]
  simp only [x_next, a_next, b_next]
  by_cases h : y.val = 1023
  · simp only [dif_pos h]
    generalize hasNext 4#32 3#32 (BitVec.ofNat 32 (i 0).val) = b
    rcases bit_cases b with rfl | rfl
    · simp only [halo_zero]
      exact (congrArg (fun r => rup r g w f) (res_zero _ _)).trans (rup_zero g w f)
    · simp only [halo_one]
      rfl
  · simp only [dif_neg h]
    rfl

/-- The gated rows entry by entry. -/
theorem gtd_at (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16)
    (g : FVec Ideal S1x1024 .f32) (w1 w2 : FVec Ideal S1024x2816 .bf16) (c0 c1 c2 cb : FVec Ideal S1x2816 .f32) (y : Fin 1024) (f : Fin 2816) :
    gtd i x0 x2 x1 x3 x5 x4 x6 x8 x7 wa wb g w1 w2 c0 c1 c2 cb (ix2 y f)
      = gate
          (fun f => if h : y.val = 0 then halo (hasPrev 4#32 (BitVec.ofNat 32 (i 0).val)) (rup (nbr x0 x3 x6 wa wb 7 15) (fun c => g (ix2 0 c)) (fun c f => w1 (ix2 c f)) f)
            else rup (own x1 x4 x7 wa wb ⟨y - 1, by omega⟩) (fun c => g (ix2 0 c)) (fun c f => w1 (ix2 c f)) f)
          (rup (own x1 x4 x7 wa wb y) (fun c => g (ix2 0 c)) (fun c f => w1 (ix2 c f)))
          (fun f => if h : y.val = 1023 then halo (hasNext 4#32 3#32 (BitVec.ofNat 32 (i 0).val)) (rup (nbr x2 x5 x8 wa wb 0 0) (fun c => g (ix2 0 c)) (fun c f => w1 (ix2 c f)) f)
            else rup (own x1 x4 x7 wa wb ⟨(y + 1) % 1024, by omega⟩) (fun c => g (ix2 0 c)) (fun c f => w1 (ix2 c f)) f)
          (rup (own x1 x4 x7 wa wb y) (fun c => g (ix2 0 c)) (fun c f => w2 (ix2 c f)))
          (fun f => c0 (ix2 0 f)) (fun f => c1 (ix2 0 f)) (fun f => c2 (ix2 0 f)) (fun f => cb (ix2 0 f)) f := by
  rw [gtd]
  refine (gate_at _ w1 w2 c0 c1 c2 cb y f).trans ?_
  simp only [norm_at]
  rw [← ext_here i x0 x2 x1 x3 x5 x4 x6 x8 x7 wa wb y]
  simp only [gate, ← ext_prev i x0 x2 x1 x3 x5 x4 x6 x8 x7 wa wb, ← ext_next i x0 x2 x1 x3 x5 x4 x6 x8 x7 wa wb]
  rfl

/-- A row of the result of the tile, from the loaded blocks. -/
def tile (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16)
    (g : FVec Ideal S1x1024 .f32) (w1 w2 : FVec Ideal S1024x2816 .bf16) (c0 c1 c2 : Fin 2816 → EReal) (cb : FVec Ideal S1x2816 .f32)
    (wd : FVec Ideal S2816x1024 .bf16) (gf : FVec Ideal S1x1024 .f32) (y : Fin 1024) : Fin 1024 → EReal :=
  fin (own x1 x4 x7 wa wb y)
    (gate
      (fun f => if h : y.val = 0 then halo (hasPrev 4#32 (BitVec.ofNat 32 (i 0).val)) (rup (nbr x0 x3 x6 wa wb 7 15) (fun c => g (ix2 0 c)) (fun c f => w1 (ix2 c f)) f)
        else rup (own x1 x4 x7 wa wb ⟨y - 1, by omega⟩) (fun c => g (ix2 0 c)) (fun c f => w1 (ix2 c f)) f)
      (rup (own x1 x4 x7 wa wb y) (fun c => g (ix2 0 c)) (fun c f => w1 (ix2 c f)))
      (fun f => if h : y.val = 1023 then halo (hasNext 4#32 3#32 (BitVec.ofNat 32 (i 0).val)) (rup (nbr x2 x5 x8 wa wb 0 0) (fun c => g (ix2 0 c)) (fun c f => w1 (ix2 c f)) f)
        else rup (own x1 x4 x7 wa wb ⟨(y + 1) % 1024, by omega⟩) (fun c => g (ix2 0 c)) (fun c f => w1 (ix2 c f)) f)
      (rup (own x1 x4 x7 wa wb y) (fun c => g (ix2 0 c)) (fun c f => w2 (ix2 c f)))
      c0 c1 c2 (fun f => cb (ix2 0 f)))
    (fun f c => wd (ix2 f c)) (fun c => gf (ix2 0 c))

theorem tile_eq (i : grid0.Coords) (x0 x2 : FVec Ideal S8x1024 .f32) (x1 : FVec Ideal S1024x1024 .f32) (x3 x5 : FVec Ideal S16x512 .bf16) (x4 : FVec Ideal S1024x512 .bf16) (x6 x8 : FVec Ideal S16x512 .bf16) (x7 : FVec Ideal S1024x512 .bf16) (wa wb : FVec Ideal S512x1024 .bf16)
    (g : FVec Ideal S1x1024 .f32) (w1 w2 : FVec Ideal S1024x2816 .bf16) (c0 c1 c2 cb : FVec Ideal S1x2816 .f32)
    (wd : FVec Ideal S2816x1024 .bf16) (gf : FVec Ideal S1x1024 .f32) (r : Fin 1040) (y y' : Fin 1024) (c : Fin 1024) (hr : r.val = y + 8)
    (hy : y'.val = y) :
    fin (fun c => ext i x0 x2 x1 x3 x5 x4 x6 x8 x7 wa wb (ix2 r c)) (fun f => gtd i x0 x2 x1 x3 x5 x4 x6 x8 x7 wa wb g w1 w2 c0 c1 c2 cb (ix2 y' f))
        (fun f c => wd (ix2 f c)) (fun c => gf (ix2 0 c)) c
      = tile i x0 x2 x1 x3 x5 x4 x6 x8 x7 wa wb g w1 w2 (fun f => c0 (ix2 0 f)) (fun f => c1 (ix2 0 f)) (fun f => c2 (ix2 0 f)) cb wd gf y c := by
  obtain rfl : y' = y := Fin.ext hy
  have er : r = ⟨y' + 8, by have := y'.isLt; omega⟩ := Fin.ext hr
  rw [er]
  rw [ext_here i x0 x2 x1 x3 x5 x4 x6 x8 x7 wa wb y']
  simp only [gtd_at]
  rfl

end Cert.Kernel2Ideal.Ffn

end
-- ==== Proof.FfnRef2.lean ====
module

public import proofs.«01_k».proof.Proof.Gen.Reference2Ideal.Run
public import proofs.«01_k».proof.Proof.FfnMath
public import Idealize.ShloMosaic.Lib.Pipeline.ValueKit

/-! The reference's result, layer by layer and then entry by entry. -/

@[expose] public section

set_option maxRecDepth 4096

noncomputable section

open Idealize.ShloMosaic

namespace Cert.Reference2Ideal.Ffn

open Cert.Reference2Ideal Cert.Reference2Ideal.Gen Cert.Reference2Ideal.Value Cert.Ffn

/-- The residual stream after the mixers' output projection. -/
def resid (x : FVec Ideal S8x4096x1024 .f32) (ya yb : FVec Ideal S65536x512 .f32) (w : FVec Ideal S1x1024x1024 .f32) :
    FVec Ideal S8x4096x1024 .f32 :=
  addf x (Host.dotGeneral dot_S8x4096x1024_S1024x1024_S8x4096x1024_2_0_01_1_n_n none (shapeCast _ (concatenate S32768x1024 1 [⟨S32768x512, (extractStridedSlice S32768x512 ![32768, 0] ya slices_S65536x512_S32768x512_32768_0)⟩, ⟨S32768x512, (extractStridedSlice S32768x512 ![32768, 0] yb slices_S65536x512_S32768x512_32768_0)⟩] concatenates_S32768x512_S32768x512_S32768x1024_d1) shapeCasts_S32768x1024_S8x4096x1024) (shapeCast _ w shapeCasts_S1x1024x1024_S1024x1024))

/-- The RMS norm along the last axis. -/
def norm (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))

/-- The up projection. -/
def proj (h : FVec Ideal S8x4096x1024 .f32) (w : FVec Ideal S1x1024x5632 .f32) : FVec Ideal S8x4096x5632 .f32 :=
  Host.dotGeneral dot_S8x4096x1024_S1024x5632_S8x4096x5632_2_0_01_1_n_n none h (shapeCast _ w shapeCasts_S1x1024x5632_S1024x5632)

/-- The gate's half with a zero row before and after each sequence. -/
def padded (u : FVec Ideal S8x4096x5632 .f32) : FVec Ideal S8x4098x2816 .f32 :=
  pad S8x4098x2816 ![0, 1, 0] ![0, 1, 0] ![0, 0, 0] (extractStridedSlice S8x4096x2816 ![0, 0, 0] u slices_S8x4096x5632_S8x4096x2816_0_0_0) (sitofp .f32 (constantI S_ 32 0#32)) pads_S8x4096x2816_S8x4098x2816_000_110_000 h_S_

/-- The convolution along the tokens. -/
def conv (e : FVec Ideal S8x4098x2816 .f32) (cw : FVec Ideal S1x3x2816 .f32) (cb : FVec Ideal S1x2816 .f32) : FVec Ideal S8x4096x2816 .f32 :=
  addf (addf (addf (mulf (extractStridedSlice S8x4096x2816 ![0, 0, 0] e slices_S8x4098x2816_S8x4096x2816_0_0_0) (broadcastInDim S8x4096x2816 ![0, 1, 2] bcast_S1x1x2816_S8x4096x2816_0_1_2 (broadcastInDim S1x1x2816 ![2] bcast_S2816_S1x1x2816_2 (shapeCast _ (extractStridedSlice S1x2816 ![0, 0] (shapeCast _ cw shapeCasts_S1x3x2816_S3x2816) slices_S3x2816_S1x2816_0_0) shapeCasts_S1x2816_S2816)))) (mulf (extractStridedSlice S8x4096x2816 ![0, 1, 0] e slices_S8x4098x2816_S8x4096x2816_0_1_0) (broadcastInDim S8x4096x2816 ![0, 1, 2] bcast_S1x1x2816_S8x4096x2816_0_1_2 (broadcastInDim S1x1x2816 ![2] bcast_S2816_S1x1x2816_2 (shapeCast _ (extractStridedSlice S1x2816 ![1, 0] (shapeCast _ cw shapeCasts_S1x3x2816_S3x2816) slices_S3x2816_S1x2816_1_0) shapeCasts_S1x2816_S2816))))) (mulf (extractStridedSlice S8x4096x2816 ![0, 2, 0] e slices_S8x4098x2816_S8x4096x2816_0_2_0) (broadcastInDim S8x4096x2816 ![0, 1, 2] bcast_S1x1x2816_S8x4096x2816_0_1_2 (broadcastInDim S1x1x2816 ![2] bcast_S2816_S1x1x2816_2 (shapeCast _ (extractStridedSlice S1x2816 ![2, 0] (shapeCast _ cw shapeCasts_S1x3x2816_S3x2816) slices_S3x2816_S1x2816_2_0) shapeCasts_S1x2816_S2816))))) (broadcastInDim S8x4096x2816 ![0, 1, 2] bcast_S1x1x2816_S8x4096x2816_0_1_2 (broadcastInDim S1x1x2816 ![2] bcast_S2816_S1x1x2816_2 (shapeCast _ cb shapeCasts_S1x2816_S2816)))

/-- GELU of the convolution times the other half. -/
def gated (z : FVec Ideal S8x4096x2816 .f32) (u : FVec Ideal S8x4096x5632 .f32) : FVec Ideal S8x4096x2816 .f32 :=
  mulf (mulf (mulf (broadcastInDim S8x4096x2816 ![] bcast_S_S8x4096x2816 (constant S_ .f32 0x3F000000#32)) z) (Host.erfc (mulf (Host.negf z) (broadcastInDim S8x4096x2816 ![] bcast_S_S8x4096x2816 (constant S_ .f32 0x3F3504F3#32))))) (extractStridedSlice S8x4096x2816 ![0, 0, 2816] u slices_S8x4096x5632_S8x4096x2816_0_0_2816)

/-- The down projection added to the residual stream. -/
def down (x : FVec Ideal S8x4096x1024 .f32) (gt : FVec Ideal S8x4096x2816 .f32) (w : FVec Ideal S1x2816x1024 .f32) : FVec Ideal S8x4096x1024 .f32 :=
  addf x (Host.dotGeneral dot_S8x4096x2816_S2816x1024_S8x4096x1024_2_0_01_1_n_n none gt (shapeCast _ w shapeCasts_S1x2816x1024_S2816x1024))

/-- All layers after the residual stream and its projection. -/
def tail (x : FVec Ideal S8x4096x1024 .f32) (u : FVec Ideal S8x4096x5632 .f32) (cw : FVec Ideal S1x3x2816 .f32) (cb : FVec Ideal S1x2816 .f32)
    (wd : FVec Ideal S1x2816x1024 .f32) (gf : FVec Ideal S1024 .f32) : FVec Ideal S32768x1024 .f32 :=
  shapeCast _ (norm (down x (gated (conv (padded u) cw cb) u) wd) gf) shapeCasts_S8x4096x1024_S32768x1024

set_option maxHeartbeats 1600000 in
/-- The result is the composition of the layers. -/
theorem res_eq (m : (ℓ : Loc nD τ sig) → Buf (Elt Ideal) ℓ) (c : Dev nD) :
    res_main_v75 (F := Ideal) m c =
      tail (resid (m ((c.tc : Thread nD τ).loc main_arg0)) (m ((c.tc : Thread nD τ).loc main_arg1)) (m ((c.tc : Thread nD τ).loc main_arg2)) (m ((c.tc : Thread nD τ).loc main_arg3)))
        (proj (norm (resid (m ((c.tc : Thread nD τ).loc main_arg0)) (m ((c.tc : Thread nD τ).loc main_arg1)) (m ((c.tc : Thread nD τ).loc main_arg2)) (m ((c.tc : Thread nD τ).loc main_arg3)))
          (shapeCast _ (m ((c.tc : Thread nD τ).loc main_arg4)) shapeCasts_S1x1024_S1024)) (m ((c.tc : Thread nD τ).loc main_arg5)))
        (m ((c.tc : Thread nD τ).loc main_arg6)) (m ((c.tc : Thread nD τ).loc main_arg7)) (m ((c.tc : Thread nD τ).loc main_arg8)) (m ((c.tc : Thread nD τ).loc main_arg9)) := rfl

/-- The complementary error function of a negated product, by the error function. -/
theorem erfc_at (z s : EReal) : Ideal.erfc (-z * s) = 1 + Ideal.erf (z * s) := by
  rw [EReal.neg_mul, Ideal.erfc_neg]

theorem resid_at (x : FVec Ideal S8x4096x1024 .f32) (ya yb : FVec Ideal S65536x512 .f32) (w : FVec Ideal S1x1024x1024 .f32)
    (s : Fin 8) (τ : Fin 4096) (c : Fin 1024) :
    resid x ya yb w (ix3 s τ c) = x (ix3 s τ c)
      + ∑ k : Fin 512, ya (ix2 ⟨32768 + (s * 4096 + τ), by omega⟩ k) * w (ix3 0 ⟨k, by omega⟩ c)
      + ∑ k : Fin 512, yb (ix2 ⟨32768 + (s * 4096 + τ), by omega⟩ k) * w (ix3 0 ⟨k + 512, by omega⟩ c) := by
  pointwise [resid]
  have e : ∀ (k : Fin 512) h, (⟨512 + ↑k, h⟩ : Fin 1024) = ⟨k + 512, by omega⟩ := fun k _ => Fin.ext (Nat.add_comm _ _)
  simp only [e, add_assoc]

theorem norm_at (x : FVec Ideal S8x4096x1024 .f32) (g : FVec Ideal S1024 .f32) (s : Fin 8) (τ : Fin 4096) (c : Fin 1024) :
    norm x g (ix3 s τ c) = nrm (fun c => x (ix3 s τ c)) (fun c => g (ix1 c)) c := by
  pointwise [norm, nrm]

theorem proj_at (h : FVec Ideal S8x4096x1024 .f32) (w : FVec Ideal S1x1024x5632 .f32) (s : Fin 8) (τ : Fin 4096) (f : Fin 5632) :
    proj h w (ix3 s τ f) = ∑ c : Fin 1024, h (ix3 s τ c) * w (ix3 0 c f) := by
  pointwise [proj]

theorem sitofp_zero : (FloatOps.sitofp (F := Ideal) FTy.f32 (0#32)) = (0 : EReal) := by
  simp [FloatOps.sitofp]

theorem padded_at (u : FVec Ideal S8x4096x5632 .f32) (s : Fin 8) (r : Fin 4098) (f : Fin 2816) :
    padded u (ix3 s r f) = if h : 0 < r.val ∧ r.val < 4097 then u (ix3 s ⟨r - 1, by omega⟩ ⟨f, by omega⟩) else 0 := by
  pointwise [padded]
  by_cases h : 0 < r.val ∧ r.val < 4097
  · rw [dif_pos h, dif_pos (by omega)]
  · rw [dif_neg h, dif_neg (by omega)]
    exact sitofp_zero

theorem padded_prev (u : FVec Ideal S8x4096x5632 .f32) (s : Fin 8) (τ : Fin 4096) (f : Fin 2816) :
    padded u (ix3 s ⟨τ, by omega⟩ f) = if h : 0 < τ.val then u (ix3 s ⟨τ - 1, by omega⟩ ⟨f, by omega⟩) else 0 := by
  rw [padded_at]
  by_cases h : 0 < τ.val
  · rw [dif_pos h, dif_pos ⟨h, by dsimp only; omega⟩]
  · rw [dif_neg h, dif_neg (fun h' => h h'.1)]

theorem padded_here (u : FVec Ideal S8x4096x5632 .f32) (s : Fin 8) (τ : Fin 4096) (f : Fin 2816) :
    padded u (ix3 s ⟨τ + 1, by omega⟩ f) = u (ix3 s τ ⟨f, by omega⟩) := by
  rw [padded_at, dif_pos ⟨by dsimp only; omega, by dsimp only; omega⟩]
  rfl

theorem padded_next (u : FVec Ideal S8x4096x5632 .f32) (s : Fin 8) (τ : Fin 4096) (f : Fin 2816) :
    padded u (ix3 s ⟨τ + 2, by omega⟩ f) = if h : τ.val < 4095 then u (ix3 s ⟨τ + 1, by omega⟩ ⟨f, by omega⟩) else 0 := by
  rw [padded_at]
  by_cases h : τ.val < 4095
  · rw [dif_pos h, dif_pos ⟨by dsimp only; omega, by dsimp only; omega⟩]
    rfl
  · rw [dif_neg h, dif_neg (fun h' => h (by have := h'.2; dsimp only at this; omega))]

theorem conv_at (e : FVec Ideal S8x4098x2816 .f32) (cw : FVec Ideal S1x3x2816 .f32) (cb : FVec Ideal S1x2816 .f32)
    (s : Fin 8) (τ : Fin 4096) (f : Fin 2816) :
    conv e cw cb (ix3 s τ f) = cw (ix3 0 0 f) * e (ix3 s ⟨τ, by omega⟩ f) + cw (ix3 0 1 f) * e (ix3 s ⟨τ + 1, by omega⟩ f)
      + cw (ix3 0 2 f) * e (ix3 s ⟨τ + 2, by omega⟩ f) + cb (ix2 0 f) := by
  pointwise [conv]
  have e1 : ∀ h, (⟨1 + ↑τ, h⟩ : Fin 4098) = ⟨τ + 1, by omega⟩ := fun _ => Fin.ext (Nat.add_comm _ _)
  have e2 : ∀ h, (⟨2 + ↑τ, h⟩ : Fin 4098) = ⟨τ + 2, by omega⟩ := fun _ => Fin.ext (Nat.add_comm _ _)
  simp only [e1, e2, mul_comm (e _)]

theorem gated_at (z : FVec Ideal S8x4096x2816 .f32) (u : FVec Ideal S8x4096x5632 .f32) (s : Fin 8) (τ : Fin 4096) (f : Fin 2816) :
    gated z u (ix3 s τ f) = gel (z (ix3 s τ f)) * u (ix3 s τ ⟨f + 2816, by omega⟩) := by
  pointwise [gated, gel]
  have e : ∀ h, (⟨2816 + ↑f, h⟩ : Fin 5632) = ⟨f + 2816, by omega⟩ := fun _ => Fin.ext (Nat.add_comm _ _)
  rw [e, erfc_at]

theorem down_at (x : FVec Ideal S8x4096x1024 .f32) (gt : FVec Ideal S8x4096x2816 .f32) (w : FVec Ideal S1x2816x1024 .f32)
    (s : Fin 8) (τ : Fin 4096) (c : Fin 1024) :
    down x gt w (ix3 s τ c) = x (ix3 s τ c) + ∑ f : Fin 2816, gt (ix3 s τ f) * w (ix3 0 f c) := by
  pointwise [down]

theorem cast_at (x : FVec Ideal S8x4096x1024 .f32) (n : Fin 32768) (c : Fin 1024) :
    (shapeCast S32768x1024 x shapeCasts_S8x4096x1024_S32768x1024 : FVec Ideal S32768x1024 .f32) (ix2 n c)
      = x (ix3 ⟨n / 4096, by omega⟩ ⟨n % 4096, by omega⟩ c) := by
  pointwise []

theorem row_at (g : FVec Ideal S1x1024 .f32) (k : Fin 1024) :
    (shapeCast S1024 g shapeCasts_S1x1024_S1024 : FVec Ideal S1024 .f32) (ix1 k) = g (ix2 0 k) := by
  pointwise []

theorem proj_lo (x : FVec Ideal S8x4096x1024 .f32) (g : FVec Ideal S1024 .f32) (w : FVec Ideal S1x1024x5632 .f32) (s : Fin 8) (τ : Fin 4096) (f : Fin 2816) :
    proj (norm x g) w (ix3 s τ ⟨f, by omega⟩) = rup (fun c => x (ix3 s τ c)) (fun c => g (ix1 c)) (fun c f => w (ix3 0 c ⟨f, by omega⟩)) f := by
  rw [proj_at, rup, up]
  simp only [norm_at]

theorem proj_hi (x : FVec Ideal S8x4096x1024 .f32) (g : FVec Ideal S1024 .f32) (w : FVec Ideal S1x1024x5632 .f32) (s : Fin 8) (τ : Fin 4096) (f : Fin 2816) :
    proj (norm x g) w (ix3 s τ ⟨f + 2816, by omega⟩) = rup (fun c => x (ix3 s τ c)) (fun c => g (ix1 c)) (fun c f => w (ix3 0 c ⟨f + 2816, by omega⟩)) f := by
  rw [proj_at, rup, up]
  simp only [norm_at]

/-- The result entry by entry, from the residual stream and its projection. -/
theorem tail_at (x : FVec Ideal S8x4096x1024 .f32) (u : FVec Ideal S8x4096x5632 .f32) (cw : FVec Ideal S1x3x2816 .f32)
    (cb : FVec Ideal S1x2816 .f32) (wd : FVec Ideal S1x2816x1024 .f32) (gf : FVec Ideal S1024 .f32) (n : Fin 32768) (c : Fin 1024)
    (s : Fin 8) (τ : Fin 4096) (hn : n.val = s * 4096 + τ) :
    tail x u cw cb wd gf (ix2 n c)
      = fin (fun c => x (ix3 s τ c))
          (gate (fun f => if h : 0 < τ.val then u (ix3 s ⟨τ - 1, by omega⟩ ⟨f, by omega⟩) else 0)
            (fun f => u (ix3 s τ ⟨f, by omega⟩))
            (fun f => if h : τ.val < 4095 then u (ix3 s ⟨τ + 1, by omega⟩ ⟨f, by omega⟩) else 0)
            (fun f => u (ix3 s τ ⟨f + 2816, by omega⟩))
            (fun f => cw (ix3 0 0 f)) (fun f => cw (ix3 0 1 f)) (fun f => cw (ix3 0 2 f)) (fun f => cb (ix2 0 f)))
          (fun f c => wd (ix3 0 f c)) (fun c => gf (ix1 c)) c := by
  have hs : (⟨n / 4096, by omega⟩ : Fin 8) = s := Fin.ext (by dsimp only; omega)
  have ht : (⟨n % 4096, by omega⟩ : Fin 4096) = τ := Fin.ext (by dsimp only; omega)
  rw [tail, cast_at, hs, ht, norm_at, fin]
  congr 1
  funext c
  rw [down_at]
  congr 1
  refine Finset.sum_congr rfl fun f _ => ?_
  congr 1
  rw [gated_at, conv_at, gate, padded_prev, padded_here, padded_next]

end Cert.Reference2Ideal.Ffn

end
-- ==== Proof.FfnValue2.lean ====
module

public import proofs.«01_k».proof.Proof.Gen.Kernel2Ideal.Frame
public import proofs.«01_k».proof.Proof.FfnKernel2
public import proofs.«01_k».proof.Proof.FfnRef2

/-! The kernel's final array is the reference's result. -/

@[expose] public section

set_option maxRecDepth 4096

noncomputable section

open Idealize.ShloMosaic

namespace Cert.Kernel2Ideal.Ffn

open Cert.Kernel2Ideal Cert.Kernel2Ideal.Gen Cert.Ffn

/-- The tile's result entry by entry, from the staged blocks. -/
theorem out_at (i : grid0.Coords) (x0 : FVec Ideal S8x1024 .f32) (x1 : FVec Ideal S1024x1024 .f32) (x2 : FVec Ideal S8x1024 .f32) (x3 : FVec Ideal S16x512 .bf16) (x4 : FVec Ideal S1024x512 .bf16) (x5 x6 : FVec Ideal S16x512 .bf16) (x7 : FVec Ideal S1024x512 .bf16) (x8 : FVec Ideal S16x512 .bf16) (x9 x10 : FVec Ideal S512x1024 .bf16) (x11 : FVec Ideal S1x1024 .f32) (x12 x13 : FVec Ideal S1024x2816 .bf16) (x14 : FVec Ideal S3x2816 .f32) (x15 : FVec Ideal S1x2816 .f32) (x16 : FVec Ideal S2816x1024 .bf16) (x17 : FVec Ideal S1x1024 .f32) (y : S1024x1024.Idx) :
    out0_18 (F := Ideal) i x0 x1 x2 x3 x4 x5 x6 x7 x8 x9 x10 x11 x12 x13 x14 x15 x16 x17 y
      = tile i x0 x2 x1 x3 x5 x4 x6 x8 x7 x9 x10 x11 x12 x13 (fun f => x14 (ix2 0 f)) (fun f => x14 (ix2 1 f)) (fun f => x14 (ix2 2 f)) x15 x16 x17 (y 0) (y 1) := by
  unfold_out out0_18
  canon_tiles p k
  · idx_vars p
    refine (out3_at (ext i _ _ _ _ _ _ _ _ _ _ _) (gtd i _ _ _ _ _ _ _ _ _ _ _ _ _ _ _ _ _ _) _ _ _ _).trans ?_
    refine (tile_eq i _ _ _ _ _ _ _ _ _ _ _ _ _ _ _ _ _ _ _ _ _ (y 0) _ _ (by dsimp only; omega) (by dsimp only; omega)).trans ?_
    rw [show p1 = y 1 from Fin.ext k1.symm]
    congr 1
    all_goals first
      | exact Pipeline.ld_unit_lit' _ _ (by decide)
      | (funext f; pointwise; done)
      | (funext f; pointwise; blk_ext [])
  · idx_vars p
    refine (out2_at (ext i _ _ _ _ _ _ _ _ _ _ _) (gtd i _ _ _ _ _ _ _ _ _ _ _ _ _ _ _ _ _ _) _ _ _ _).trans ?_
    refine (tile_eq i _ _ _ _ _ _ _ _ _ _ _ _ _ _ _ _ _ _ _ _ _ (y 0) _ _ (by dsimp only; omega) (by dsimp only; omega)).trans ?_
    rw [show p1 = y 1 from Fin.ext k1.symm]
    congr 1
    all_goals first
      | exact Pipeline.ld_unit_lit' _ _ (by decide)
      | (funext f; pointwise; done)
      | (funext f; pointwise; blk_ext [])
  · idx_vars p
    refine (out1_at (ext i _ _ _ _ _ _ _ _ _ _ _) (gtd i _ _ _ _ _ _ _ _ _ _ _ _ _ _ _ _ _ _) _ _ _ _).trans ?_
    refine (tile_eq i _ _ _ _ _ _ _ _ _ _ _ _ _ _ _ _ _ _ _ _ _ (y 0) _ _ (by dsimp only; omega) (by dsimp only; omega)).trans ?_
    rw [show p1 = y 1 from Fin.ext k1.symm]
    congr 1
    all_goals first
      | exact Pipeline.ld_unit_lit' _ _ (by decide)
      | (funext f; pointwise; done)
      | (funext f; pointwise; blk_ext [])
  · idx_vars p
    refine (out0_at (ext i _ _ _ _ _ _ _ _ _ _ _) (gtd i _ _ _ _ _ _ _ _ _ _ _ _ _ _ _ _ _ _) _ _ _ _).trans ?_
    refine (tile_eq i _ _ _ _ _ _ _ _ _ _ _ _ _ _ _ _ _ _ _ _ _ (y 0) _ _ (by dsimp only; omega) (by dsimp only; omega)).trans ?_
    rw [show p1 = y 1 from Fin.ext k1.symm]
    congr 1
    all_goals first
      | exact Pipeline.ld_unit_lit' _ _ (by decide)
      | (funext f; pointwise; done)
      | (funext f; pointwise; blk_ext [])

/-- The block each window reads or writes at a grid point. -/
theorem idx : ∀ t : Fin cfg0.N,
    win0_0.index t = ![t.val * 128 - 1, 0] ∧ win0_1.index t = ![t.val, 0] ∧ win0_2.index t = ![min ((t.val + 1) * 128) 4095, 0]
    ∧ win0_3.index t = ![(t.val + 32) * 64 - 1, 0] ∧ win0_4.index t = ![t.val + 32, 0] ∧ win0_5.index t = ![min ((t.val + 33) * 64) 4095, 0]
    ∧ win0_6.index t = ![(t.val + 32) * 64 - 1, 0] ∧ win0_7.index t = ![t.val + 32, 0] ∧ win0_8.index t = ![min ((t.val + 33) * 64) 4095, 0]
    ∧ win0_9.index t = ![0, 0] ∧ win0_10.index t = ![1, 0] ∧ win0_11.index t = ![0, 0] ∧ win0_12.index t = ![0, 0]
    ∧ win0_13.index t = ![0, 1] ∧ win0_14.index t = ![0, 0] ∧ win0_15.index t = ![0, 0] ∧ win0_16.index t = ![0, 0]
    ∧ win0_17.index t = ![0, 0] ∧ win0_18.index t = ![t.val, 0] :=
  (by decide +kernel : ∀ t : Fin grid0.N, _)

/-- The neighbour tests as facts about the tile's number. -/
theorem flags : ∀ t : Fin cfg0.N,
    (t.val % 4 = 0 → hasPrev 4#32 (BitVec.ofNat 32 (grid0.coords t 0).val) = 0#1)
    ∧ (t.val % 4 ≠ 0 → hasPrev 4#32 (BitVec.ofNat 32 (grid0.coords t 0).val) = 1#1)
    ∧ (t.val % 4 = 3 → hasNext 4#32 3#32 (BitVec.ofNat 32 (grid0.coords t 0).val) = 0#1)
    ∧ (t.val % 4 ≠ 3 → hasNext 4#32 3#32 (BitVec.ofNat 32 (grid0.coords t 0).val) = 1#1) :=
  (by decide +kernel : ∀ t : Fin grid0.N, _)

variable (m : (ℓ : Loc nD τ sig) → Buf (Elt Ideal) ℓ) (c : Dev nD)

theorem blk1 (t : Fin cfg0.N) (y k : Fin 1024) :
    iblk m c 1 t (ix2 y k) = (shapeCast S32768x1024 (m ((c.tc : Thread nD τ).loc main_arg0) : FVec Ideal S8x4096x1024 .f32) shapeCasts_S8x4096x1024_S32768x1024 : FVec Ideal S32768x1024 .f32) (ix2 ⟨t.val * 1024 + y, by have := t.isLt; have : cfg0.N = 32 := rfl; omega⟩ k) := by
  have := t.isLt
  have : cfg0.N = 32 := rfl
  unfold iblk
  entry_read
  blk_ext [idx t]

theorem blk0 (t : Fin cfg0.N) (h : t.val ≠ 0) (k : Fin 1024) :
    iblk m c 0 t (ix2 7 k) = (shapeCast S32768x1024 (m ((c.tc : Thread nD τ).loc main_arg0) : FVec Ideal S8x4096x1024 .f32) shapeCasts_S8x4096x1024_S32768x1024 : FVec Ideal S32768x1024 .f32) (ix2 ⟨t.val * 1024 - 1, by have := t.isLt; have : cfg0.N = 32 := rfl; omega⟩ k) := by
  have := t.isLt
  have : cfg0.N = 32 := rfl
  unfold iblk
  entry_read
  blk_ext [idx t]

theorem blk2 (t : Fin cfg0.N) (h : t.val ≠ 31) (k : Fin 1024) :
    iblk m c 2 t (ix2 0 k) = (shapeCast S32768x1024 (m ((c.tc : Thread nD τ).loc main_arg0) : FVec Ideal S8x4096x1024 .f32) shapeCasts_S8x4096x1024_S32768x1024 : FVec Ideal S32768x1024 .f32) (ix2 ⟨t.val * 1024 + 1024, by have := t.isLt; have : cfg0.N = 32 := rfl; omega⟩ k) := by
  have := t.isLt
  have : cfg0.N = 32 := rfl
  unfold iblk
  entry_read
  blk_ext [idx t]

theorem blk4 (t : Fin cfg0.N) (y : Fin 1024) (k : Fin 512) :
    iblk m c 4 t (ix2 y k) = (m ((c.tc : Thread nD τ).loc main_arg1) : FVec Ideal S65536x512 .f32) (ix2 ⟨32768 + (t.val * 1024 + y), by have := t.isLt; have : cfg0.N = 32 := rfl; omega⟩ k) := by
  have := t.isLt
  have : cfg0.N = 32 := rfl
  unfold iblk
  entry_read
  blk_ext [idx t]

theorem blk3 (t : Fin cfg0.N) (h : t.val ≠ 0) (k : Fin 512) :
    iblk m c 3 t (ix2 15 k) = (m ((c.tc : Thread nD τ).loc main_arg1) : FVec Ideal S65536x512 .f32) (ix2 ⟨32768 + (t.val * 1024 - 1), by have := t.isLt; have : cfg0.N = 32 := rfl; omega⟩ k) := by
  have := t.isLt
  have : cfg0.N = 32 := rfl
  unfold iblk
  entry_read
  blk_ext [idx t]

theorem blk5 (t : Fin cfg0.N) (h : t.val ≠ 31) (k : Fin 512) :
    iblk m c 5 t (ix2 0 k) = (m ((c.tc : Thread nD τ).loc main_arg1) : FVec Ideal S65536x512 .f32) (ix2 ⟨32768 + (t.val * 1024 + 1024), by have := t.isLt; have : cfg0.N = 32 := rfl; omega⟩ k) := by
  have := t.isLt
  have : cfg0.N = 32 := rfl
  unfold iblk
  entry_read
  blk_ext [idx t]

theorem blk7 (t : Fin cfg0.N) (y : Fin 1024) (k : Fin 512) :
    iblk m c 7 t (ix2 y k) = (m ((c.tc : Thread nD τ).loc main_arg2) : FVec Ideal S65536x512 .f32) (ix2 ⟨32768 + (t.val * 1024 + y), by have := t.isLt; have : cfg0.N = 32 := rfl; omega⟩ k) := by
  have := t.isLt
  have : cfg0.N = 32 := rfl
  unfold iblk
  entry_read
  blk_ext [idx t]

theorem blk6 (t : Fin cfg0.N) (h : t.val ≠ 0) (k : Fin 512) :
    iblk m c 6 t (ix2 15 k) = (m ((c.tc : Thread nD τ).loc main_arg2) : FVec Ideal S65536x512 .f32) (ix2 ⟨32768 + (t.val * 1024 - 1), by have := t.isLt; have : cfg0.N = 32 := rfl; omega⟩ k) := by
  have := t.isLt
  have : cfg0.N = 32 := rfl
  unfold iblk
  entry_read
  blk_ext [idx t]

theorem blk8 (t : Fin cfg0.N) (h : t.val ≠ 31) (k : Fin 512) :
    iblk m c 8 t (ix2 0 k) = (m ((c.tc : Thread nD τ).loc main_arg2) : FVec Ideal S65536x512 .f32) (ix2 ⟨32768 + (t.val * 1024 + 1024), by have := t.isLt; have : cfg0.N = 32 := rfl; omega⟩ k) := by
  have := t.isLt
  have : cfg0.N = 32 := rfl
  unfold iblk
  entry_read
  blk_ext [idx t]

theorem blk9 (t : Fin cfg0.N) (k : Fin 512) (j : Fin 1024) :
    iblk m c 9 t (ix2 k j) = (m ((c.tc : Thread nD τ).loc main_arg3) : FVec Ideal S1x1024x1024 .f32) (ix3 0 ⟨k, by omega⟩ j) := by
  unfold iblk
  entry_read
  blk_simp [idx t]
  pointwise []
  blk_ext [idx t]

theorem blk10 (t : Fin cfg0.N) (k : Fin 512) (j : Fin 1024) :
    iblk m c 10 t (ix2 k j) = (m ((c.tc : Thread nD τ).loc main_arg3) : FVec Ideal S1x1024x1024 .f32) (ix3 0 ⟨k + 512, by omega⟩ j) := by
  unfold iblk
  entry_read
  blk_simp [idx t]
  pointwise []
  blk_ext [idx t]

theorem blk11 (t : Fin cfg0.N) (j : Fin 1024) :
    iblk m c 11 t (ix2 0 j) = (m ((c.tc : Thread nD τ).loc main_arg4) : FVec Ideal S1x1024 .f32) (ix2 0 j) := by
  unfold iblk
  entry_read
  blk_simp [idx t]
  pointwise []
  blk_ext [idx t]

theorem blk12 (t : Fin cfg0.N) (k : Fin 1024) (j : Fin 2816) :
    iblk m c 12 t (ix2 k j) = (m ((c.tc : Thread nD τ).loc main_arg5) : FVec Ideal S1x1024x5632 .f32) (ix3 0 k ⟨j, by omega⟩) := by
  unfold iblk
  entry_read
  blk_simp [idx t]
  pointwise []
  blk_ext [idx t]

theorem blk13 (t : Fin cfg0.N) (k : Fin 1024) (j : Fin 2816) :
    iblk m c 13 t (ix2 k j) = (m ((c.tc : Thread nD τ).loc main_arg5) : FVec Ideal S1x1024x5632 .f32) (ix3 0 k ⟨j + 2816, by omega⟩) := by
  unfold iblk
  entry_read
  blk_simp [idx t]
  pointwise []
  blk_ext [idx t]

theorem blk14 (t : Fin cfg0.N) (k : Fin 3) (j : Fin 2816) :
    iblk m c 14 t (ix2 k j) = (m ((c.tc : Thread nD τ).loc main_arg6) : FVec Ideal S1x3x2816 .f32) (ix3 0 k j) := by
  unfold iblk
  entry_read
  blk_simp [idx t]
  pointwise []
  blk_ext [idx t]

theorem blk15 (t : Fin cfg0.N) (j : Fin 2816) :
    iblk m c 15 t (ix2 0 j) = (m ((c.tc : Thread nD τ).loc main_arg7) : FVec Ideal S1x2816 .f32) (ix2 0 j) := by
  unfold iblk
  entry_read
  blk_simp [idx t]
  pointwise []
  blk_ext [idx t]

theorem blk16 (t : Fin cfg0.N) (k : Fin 2816) (j : Fin 1024) :
    iblk m c 16 t (ix2 k j) = (m ((c.tc : Thread nD τ).loc main_arg8) : FVec Ideal S1x2816x1024 .f32) (ix3 0 k j) := by
  unfold iblk
  entry_read
  blk_simp [idx t]
  pointwise []
  blk_ext [idx t]

theorem blk17 (t : Fin cfg0.N) (j : Fin 1024) :
    iblk m c 17 t (ix2 0 j) = (m ((c.tc : Thread nD τ).loc main_arg9) : FVec Ideal S1024 .f32) (ix1 j) := by
  unfold iblk
  entry_read
  blk_simp [idx t]
  pointwise []
  blk_ext [idx t]

/-- The residual stream of the reference over the kernel's arrays. -/
def RS : FVec Ideal S8x4096x1024 .f32 :=
  Cert.Reference2Ideal.Ffn.resid (m ((c.tc : Thread nD τ).loc main_arg0) : FVec Ideal S8x4096x1024 .f32) (m ((c.tc : Thread nD τ).loc main_arg1) : FVec Ideal S65536x512 .f32) (m ((c.tc : Thread nD τ).loc main_arg2) : FVec Ideal S65536x512 .f32) (m ((c.tc : Thread nD τ).loc main_arg3) : FVec Ideal S1x1024x1024 .f32)

/-- Its normalised projection. -/
def US : FVec Ideal Cert.Reference2Ideal.S8x4096x5632 .f32 :=
  Cert.Reference2Ideal.Ffn.proj (Cert.Reference2Ideal.Ffn.norm (RS m c) (shapeCast S1024 (m ((c.tc : Thread nD τ).loc main_arg4) : FVec Ideal S1x1024 .f32) Cert.Reference2Ideal.Gen.shapeCasts_S1x1024_S1024)) (m ((c.tc : Thread nD τ).loc main_arg5) : FVec Ideal S1x1024x5632 .f32)

/-- The reference's result over the kernel's arrays. -/
def REF : FVec Ideal S32768x1024 .f32 :=
  Cert.Reference2Ideal.Ffn.tail (RS m c) (US m c) (m ((c.tc : Thread nD τ).loc main_arg6) : FVec Ideal S1x3x2816 .f32) (m ((c.tc : Thread nD τ).loc main_arg7) : FVec Ideal S1x2816 .f32) (m ((c.tc : Thread nD τ).loc main_arg8) : FVec Ideal S1x2816x1024 .f32) (m ((c.tc : Thread nD τ).loc main_arg9) : FVec Ideal S1024 .f32)

/-- A row of the tile is a row of the residual stream. -/
theorem own_eq (t : Fin cfg0.N) (y : Fin 1024) (s : Fin 8) (τ : Fin 4096) (hn : s.val * 4096 + τ = t.val * 1024 + y) :
    own (iblk m c 1 t) (iblk m c 4 t) (iblk m c 7 t) (iblk m c 9 t) (iblk m c 10 t) y = fun k => RS m c (ix3 s τ k) := by
  have ht := t.isLt
  have hN : cfg0.N = 32 := rfl
  funext k
  have e : (⟨32768 + (s * 4096 + τ), by omega⟩ : Fin 65536) = ⟨32768 + (t.val * 1024 + y), by omega⟩ := Fin.ext (by dsimp only; omega)
  rw [RS, Cert.Reference2Ideal.Ffn.resid_at, own, res]
  simp only [blk1, blk4, blk7, blk9, blk10]
  rw [Cert.Reference2Ideal.Ffn.cast_at, e]
  have e1 : (⟨(t.val * 1024 + y) / 4096, by omega⟩ : Fin 8) = s := Fin.ext (by dsimp only; omega)
  have e2 : (⟨(t.val * 1024 + y) % 4096, by omega⟩ : Fin 4096) = τ := Fin.ext (by dsimp only; omega)
  rw [e1, e2]

/-- The last row of the tile before is the row before. -/
theorem prev_eq (t : Fin cfg0.N) (h : t.val ≠ 0) (s : Fin 8) (τ : Fin 4096) (hn : s.val * 4096 + τ = t.val * 1024 - 1) :
    nbr (iblk m c 0 t) (iblk m c 3 t) (iblk m c 6 t) (iblk m c 9 t) (iblk m c 10 t) 7 15 = fun k => RS m c (ix3 s τ k) := by
  have ht := t.isLt
  have hN : cfg0.N = 32 := rfl
  funext k
  have e : (⟨32768 + (s * 4096 + τ), by omega⟩ : Fin 65536) = ⟨32768 + (t.val * 1024 - 1), by omega⟩ := Fin.ext (by dsimp only; omega)
  rw [RS, Cert.Reference2Ideal.Ffn.resid_at, nbr, res]
  simp only [blk0 m c t h, blk3 m c t h, blk6 m c t h, blk9, blk10]
  rw [Cert.Reference2Ideal.Ffn.cast_at, e]
  have e1 : (⟨(t.val * 1024 - 1) / 4096, by omega⟩ : Fin 8) = s := Fin.ext (by dsimp only; omega)
  have e2 : (⟨(t.val * 1024 - 1) % 4096, by omega⟩ : Fin 4096) = τ := Fin.ext (by dsimp only; omega)
  rw [e1, e2]

/-- The first row of the tile after is the row after. -/
theorem next_eq (t : Fin cfg0.N) (h : t.val ≠ 31) (s : Fin 8) (τ : Fin 4096) (hn : s.val * 4096 + τ = t.val * 1024 + 1024) :
    nbr (iblk m c 2 t) (iblk m c 5 t) (iblk m c 8 t) (iblk m c 9 t) (iblk m c 10 t) 0 0 = fun k => RS m c (ix3 s τ k) := by
  have ht := t.isLt
  have hN : cfg0.N = 32 := rfl
  funext k
  have e : (⟨32768 + (s * 4096 + τ), by omega⟩ : Fin 65536) = ⟨32768 + (t.val * 1024 + 1024), by omega⟩ := Fin.ext (by dsimp only; omega)
  rw [RS, Cert.Reference2Ideal.Ffn.resid_at, nbr, res]
  simp only [blk2 m c t h, blk5 m c t h, blk8 m c t h, blk9, blk10]
  rw [Cert.Reference2Ideal.Ffn.cast_at, e]
  have e1 : (⟨(t.val * 1024 + 1024) / 4096, by omega⟩ : Fin 8) = s := Fin.ext (by dsimp only; omega)
  have e2 : (⟨(t.val * 1024 + 1024) % 4096, by omega⟩ : Fin 4096) = τ := Fin.ext (by dsimp only; omega)
  rw [e1, e2]

/-- The gate half's projection of a residual row. -/
theorem lo_eq (t : Fin cfg0.N) (s : Fin 8) (r : Fin 4096) (f : Fin 2816) :
    rup (fun k => RS m c (ix3 s r k)) (fun k => iblk m c 11 t (ix2 0 k)) (fun k f => iblk m c 12 t (ix2 k f)) f
      = US m c (ix3 s r ⟨f, by omega⟩) := by
  rw [US, Cert.Reference2Ideal.Ffn.proj_lo]
  simp only [blk11, blk12]
  have e : ∀ k : Fin 1024, (shapeCast S1024 (m ((c.tc : Thread nD τ).loc main_arg4) : FVec Ideal S1x1024 .f32) Cert.Reference2Ideal.Gen.shapeCasts_S1x1024_S1024 : FVec Ideal S1024 .f32) (ix1 k)
      = (m ((c.tc : Thread nD τ).loc main_arg4) : FVec Ideal S1x1024 .f32) (ix2 0 k) := fun k => Cert.Reference2Ideal.Ffn.row_at _ k
  exact congrArg (fun g => rup _ g _ f) (funext fun k => (e k).symm)

/-- The other half's. -/
theorem hi_eq (t : Fin cfg0.N) (s : Fin 8) (r : Fin 4096) (f : Fin 2816) :
    rup (fun k => RS m c (ix3 s r k)) (fun k => iblk m c 11 t (ix2 0 k)) (fun k f => iblk m c 13 t (ix2 k f)) f
      = US m c (ix3 s r ⟨f + 2816, by omega⟩) := by
  rw [US, Cert.Reference2Ideal.Ffn.proj_hi]
  simp only [blk11, blk13]
  have e : ∀ k : Fin 1024, (shapeCast S1024 (m ((c.tc : Thread nD τ).loc main_arg4) : FVec Ideal S1x1024 .f32) Cert.Reference2Ideal.Gen.shapeCasts_S1x1024_S1024 : FVec Ideal S1024 .f32) (ix1 k)
      = (m ((c.tc : Thread nD τ).loc main_arg4) : FVec Ideal S1x1024 .f32) (ix2 0 k) := fun k => Cert.Reference2Ideal.Ffn.row_at _ k
  exact congrArg (fun g => rup _ g _ f) (funext fun k => (e k).symm)

/-- A tile's row is the reference's row. -/
theorem tile_ref (t : Fin cfg0.N) (y k : Fin 1024) :
    tile (grid0.coords t) (iblk m c 0 t) (iblk m c 2 t) (iblk m c 1 t) (iblk m c 3 t) (iblk m c 5 t) (iblk m c 4 t) (iblk m c 6 t)
        (iblk m c 8 t) (iblk m c 7 t) (iblk m c 9 t) (iblk m c 10 t) (iblk m c 11 t) (iblk m c 12 t) (iblk m c 13 t)
        (fun f => iblk m c 14 t (ix2 0 f)) (fun f => iblk m c 14 t (ix2 1 f)) (fun f => iblk m c 14 t (ix2 2 f))
        (iblk m c 15 t) (iblk m c 16 t) (iblk m c 17 t) y k
      = REF m c (ix2 ⟨t.val * 1024 + y, by have := t.isLt; have : cfg0.N = 32 := rfl; omega⟩ k) := by
  have ht := t.isLt
  have hN : cfg0.N = 32 := rfl
  obtain ⟨p0, p1, n0, n1⟩ := flags t
  obtain ⟨s, hs⟩ : ∃ s : Fin 8, s.val = (t.val * 1024 + y) / 4096 := ⟨⟨_, by omega⟩, rfl⟩
  obtain ⟨τ, hτ⟩ : ∃ τ : Fin 4096, τ.val = (t.val * 1024 + y) % 4096 := ⟨⟨_, by omega⟩, rfl⟩
  rw [REF, Cert.Reference2Ideal.Ffn.tail_at _ _ _ _ _ _ _ _ s τ (by dsimp only; omega), tile]
  have ho := own_eq m c t y s τ (by omega)
  refine fin_gate_congr k ho (funext fun f => ?_) (funext fun f => ?_) (funext fun f => ?_) (funext fun f => ?_)
    (funext fun f => blk14 m c t 0 f) (funext fun f => blk14 m c t 1 f) (funext fun f => blk14 m c t 2 f)
    (funext fun f => blk15 m c t f) (funext fun f => funext fun k => blk16 m c t f k) (funext fun k => blk17 m c t k)
  · by_cases h : y.val = 0
    · rw [dif_pos h]
      by_cases h' : t.val % 4 = 0
      · rw [p0 h', halo_zero, dif_neg (by omega)]
      · rw [p1 h', halo_one, dif_pos (by omega), prev_eq m c t (by omega) s ⟨τ - 1, by omega⟩ (by dsimp only; omega), lo_eq]
    · rw [dif_neg h, dif_pos (by omega), own_eq m c t _ s ⟨τ - 1, by omega⟩ (by dsimp only; omega), lo_eq]
  · rw [ho, lo_eq]
  · by_cases h : y.val = 1023
    · rw [dif_pos h]
      by_cases h' : t.val % 4 = 3
      · rw [n0 h', halo_zero, dif_neg (by omega)]
      · rw [n1 h', halo_one, dif_pos (by omega), next_eq m c t (by omega) s ⟨τ + 1, by omega⟩ (by dsimp only; omega), lo_eq]
    · rw [dif_neg h, dif_pos (by omega), own_eq m c t _ s ⟨τ + 1, by omega⟩ (by dsimp only; omega), lo_eq]
  · rw [ho, hi_eq]

/-- The final array is the reference's result. -/
theorem final : (dats m 0 c).arrAt 18 (cfgs 0).N = REF m c := by
  refine (dats m 0 c).arrAt_eq_of_covers 18 _ (by decide +kernel) fun t _ y => ?_
  blk_simp
  rw [after0_18]
  refine (out_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y).trans ?_
  refine (tile_ref m c t (y 0) (y 1)).trans ?_
  blk_ext [idx t]

end Cert.Kernel2Ideal.Ffn

end
-- ==== Proof.FfnClaim2.lean ====
module

public import proofs.«01_k».proof.Defs
public import proofs.«01_k».proof.Proof.FfnValue2
public import Idealize.ShloMosaic.Lib.Claim

/-! The closing half of the layer on the sample batches: kernel and reference have one result. -/

@[expose] public section

set_option maxRecDepth 16384

noncomputable section

open Idealize.ShloMosaic Idealize.SL.Sem

namespace Cert.Kernel2Ideal.Ffn

theorem algebraic : Cert.algebraic_Kernel2Ideal_Reference2Ideal (hKernel2Ideal := Cert.Kernel2Ideal.Gen.facts) (hReference2Ideal := Cert.Reference2Ideal.Gen.facts) := by
  pair_intro
  · run_from Cert.Kernel2Ideal.Gen.run_main m g
    exact hc.1 18
  · run_from Cert.Reference2Ideal.Value.run m' g'
    obtain ⟨h0, h1, h2, h3, h4, h5, h6, h7, h8, h9⟩ := hagree c
    rw [Cert.Reference2Ideal.Ffn.res_eq, h0, h1, h2, h3, h4, h5, h6, h7, h8, h9]
    exact (final m c).symm

/-- The reference runs, leaves its arguments unchanged, and has no counters that could end other than zero. -/
theorem frame_reference : Cert.quiescent_Reference2Ideal (hReference2Ideal := Cert.Reference2Ideal.Gen.facts) := fun m ρ _ =>
  θ_run_mono (Cert.Reference2Ideal.Value.run m ρ) fun _ h => ⟨fun c => (h c).2, sem_eq_zero_of_no_sems (by decide) _⟩

end Cert.Kernel2Ideal.Ffn

end
-- ==== Proof.MixRun.lean ====
/-
  One run of the first mixer's kernel body at a point over the second input, found by running the body with the point's
  conditions decided first: the pieces it stores into every output, and that it ends with all buffers back.
-/
module

public import proofs.«01_k».proof.Proof.Gen.Kernel3Ideal.Frame.RunB

@[expose] public section

set_option maxRecDepth 16384

noncomputable section

namespace Cert.Kernel3Ideal.Mix

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body over the second input: the pieces it leaves in each output buffer (last stored first), with the proof that
    from whole buffers, the inputs and the scratch at their contents and the outputs at anything, it runs to its end and
    gives all of them back, each output with its pieces stored. -/
noncomputable def kernelRun0_C (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x2560 .f32) (harg4 : arg4.IsWhole) (arg5 : Memref sig .tc .vmem S1x512 .f32) (harg5 : arg5.IsWhole) (arg6 : Memref sig .tc .vmem S8x128x128 .f32) (harg6 : arg6.IsWhole) (arg7 : Memref sig .tc .vmem S128x512 .f32) (harg7 : arg7.IsWhole) (arg8 : Memref sig .tc .vmem S16x1024 .f32) (harg8 : arg8.IsWhole) (arg9 : Memref sig .tc .vmem S16x5632 .f32) (harg9 : arg9.IsWhole) (arg10 : Memref sig .tc .vmem S64x1024 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S16x1024 .bf16) (harg15 : arg15.IsWhole) (arg16 : Memref sig .tc .vmem S16x5632 .bf16) (harg16 : arg16.IsWhole) (arg17 : Memref sig .tc .vmem S64x1024 .bf16) (harg17 : arg17.IsWhole) (arg18 : Memref sig .tc .vmem S1024x2560 .bf16) (harg18 : arg18.IsWhole) (arg19 : Memref sig .tc .vmem S8x128x128 .bf16) (harg19 : arg19.IsWhole) (hc0 : ¬cond0_0 i) (hc1 : ¬cond0_1 i) (hc2 : cond0_2 i)
    (x0 : Vec F S1024x1024 .f32) (x1 : Vec F S1024x1024 .f32) (x2 : Vec F S1x1024 .f32) (x3 : Vec F S1024x2560 .f32) (x4 : Vec F S1x512 .f32) (x5 : Vec F S8x128x128 .f32) (x6 : Vec F S128x512 .f32) (x7 : Vec F S16x1024 .f32) (x8 : Vec F S16x5632 .f32) (x9 : Vec F S64x1024 .f32) (xs0 : Vec F S1024x2560 .bf16) (xs1 : Vec F S8x128x128 .bf16) :
    Σ' (L10 : List (View.Piece (Elt F) S1024x512 .bf16)), Σ' (L11 : List (View.Piece (Elt F) S1024x512 .bf16)), Σ' (L12 : List (View.Piece (Elt F) S1024x512 .bf16)), Σ' (L13 : List (View.Piece (Elt F) S1024x512 .bf16)), Σ' (L14 : List (View.Piece (Elt F) S16x1024 .bf16)), Σ' (L15 : List (View.Piece (Elt F) S16x5632 .bf16)), Σ' (L16 : List (View.Piece (Elt F) S64x1024 .bf16)), Σ' (LS0 : List (View.Piece (Elt F) S1024x2560 .bf16)), { LS1 : List (View.Piece (Elt F) S8x128x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0 ∗ owns (c : Thread nD τ) arg19 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ owns (c : Thread nD τ) arg18 fullShare xs0 ∗ owns (c : Thread nD τ) arg19 fullShare xs1) -∗ K ⟨⟩))
          ⊢ wp frame (wpE (defs₀ (F := F)) Variants.none c none) E (cc0_mix_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, [], [], fun E K => ?run⟩
  case run =>
    simp only [cc0_mix_in_eq_skeleton]; unfold cc0_mix_in_skel
    dsimp only
    rw [dif_neg hc0, dif_neg hc1, dif_pos hc2]
    simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg18.eq_unread hfs0; obtain rfl := harg19.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]
    · iexists _; isplitr; · ipureintro; exact harg18.read_unread _
      iexact HS0
    iexists _; isplitr; · ipureintro; exact harg19.read_unread _
    iexact HS1

end Cert.Kernel3Ideal.Mix

end
-- ==== Proof.MixOuts.lean ====
/-
  What the first mixer's kernel leaves in each output buffer and in its two scratch buffers, case by case. Its grid
  points fall into three cases: A, the first point, which also casts the two constant weights into the scratch; B, the
  other points over the first input; C, the points over the second input. `cover0_κ_W` says that case κ's stores into
  output W fill it, `out0_κ_W` is what it then holds; `scover0_κ_N` and `sout0_κ_N` say the same of scratch N.
-/
module

public import proofs.«01_k».proof.Proof.MixRun

@[expose] public section

set_option maxRecDepth 16384

noncomputable section

namespace Cert.Kernel3Ideal.Mix

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section caseA

variable (c : Dev nD) (i : grid0.Coords) (arg1 : Memref sig .tc .vmem S1024x1024 .f32) (harg1 : arg1.IsWhole)
  (arg2 : Memref sig .tc .vmem S1024x1024 .f32) (harg2 : arg2.IsWhole) (arg3 : Memref sig .tc .vmem S1x1024 .f32)
  (harg3 : arg3.IsWhole) (arg4 : Memref sig .tc .vmem S1024x2560 .f32) (harg4 : arg4.IsWhole)
  (arg5 : Memref sig .tc .vmem S1x512 .f32) (harg5 : arg5.IsWhole) (arg6 : Memref sig .tc .vmem S8x128x128 .f32)
  (harg6 : arg6.IsWhole) (arg7 : Memref sig .tc .vmem S128x512 .f32) (harg7 : arg7.IsWhole)
  (arg8 : Memref sig .tc .vmem S16x1024 .f32) (harg8 : arg8.IsWhole) (arg9 : Memref sig .tc .vmem S16x5632 .f32)
  (harg9 : arg9.IsWhole) (arg10 : Memref sig .tc .vmem S64x1024 .f32) (harg10 : arg10.IsWhole)
  (arg11 : Memref sig .tc .vmem S1024x512 .bf16) (harg11 : arg11.IsWhole)
  (arg12 : Memref sig .tc .vmem S1024x512 .bf16) (harg12 : arg12.IsWhole)
  (arg13 : Memref sig .tc .vmem S1024x512 .bf16) (harg13 : arg13.IsWhole)
  (arg14 : Memref sig .tc .vmem S1024x512 .bf16) (harg14 : arg14.IsWhole)
  (arg15 : Memref sig .tc .vmem S16x1024 .bf16) (harg15 : arg15.IsWhole) (arg16 : Memref sig .tc .vmem S16x5632 .bf16)
  (harg16 : arg16.IsWhole) (arg17 : Memref sig .tc .vmem S64x1024 .bf16) (harg17 : arg17.IsWhole)
  (arg18 : Memref sig .tc .vmem S1024x2560 .bf16) (harg18 : arg18.IsWhole)
  (arg19 : Memref sig .tc .vmem S8x128x128 .bf16) (harg19 : arg19.IsWhole) (hc0 : cond0_0 i) (hc1 : cond0_1 i)
  (hc2 : ¬cond0_2 i)
variable (x0 : Vec F S1024x1024 .f32) (x1 : Vec F S1024x1024 .f32) (x2 : Vec F S1x1024 .f32) (x3 : Vec F S1024x2560 .f32)
  (x4 : Vec F S1x512 .f32) (x5 : Vec F S8x128x128 .f32) (x6 : Vec F S128x512 .f32) (x7 : Vec F S16x1024 .f32)
  (x8 : Vec F S16x5632 .f32) (x9 : Vec F S64x1024 .f32)

theorem cover0_A_10 (y : S1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).1 S128x128.size (by sl_kernel_rfl) y

def out0_A_10 : Vec F S1024x512 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).1)

theorem cover0_A_11 (y : S1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.1 S1024x512.size (by sl_kernel_rfl) y

def out0_A_11 : Vec F S1024x512 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.1)

theorem cover0_A_12 (y : S1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.1 S1024x512.size (by sl_kernel_rfl) y

def out0_A_12 : Vec F S1024x512 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.1)

theorem cover0_A_13 (y : S1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.1 S1024x512.size (by sl_kernel_rfl) y

def out0_A_13 : Vec F S1024x512 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.1)

theorem cover0_A_14 (y : S16x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.1 S16x1024.size (by sl_kernel_rfl) y

def out0_A_14 : Vec F S16x1024 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.1)

theorem cover0_A_15 (y : S16x5632.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.1 S16x5632.size (by sl_kernel_rfl) y

def out0_A_15 : Vec F S16x5632 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.1)

theorem cover0_A_16 (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.1 S64x1024.size (by sl_kernel_rfl) y

def out0_A_16 : Vec F S64x1024 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.1)

theorem scover0_A_0 (y : S1024x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.2.1 S1024x2560.size (by sl_kernel_rfl) y

def sout0_A_0 : Vec F S1024x2560 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.2.1)

theorem scover0_A_1 (y : S8x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.2.2.1 S8x128x128.size (by sl_kernel_rfl) y

def sout0_A_1 : Vec F S8x128x128 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).2.2.2.2.2.2.2.2.1)

end caseA

section caseB

variable (c : Dev nD) (i : grid0.Coords) (arg1 : Memref sig .tc .vmem S1024x1024 .f32) (harg1 : arg1.IsWhole)
  (arg2 : Memref sig .tc .vmem S1024x1024 .f32) (harg2 : arg2.IsWhole) (arg3 : Memref sig .tc .vmem S1x1024 .f32)
  (harg3 : arg3.IsWhole) (arg4 : Memref sig .tc .vmem S1024x2560 .f32) (harg4 : arg4.IsWhole)
  (arg5 : Memref sig .tc .vmem S1x512 .f32) (harg5 : arg5.IsWhole) (arg6 : Memref sig .tc .vmem S8x128x128 .f32)
  (harg6 : arg6.IsWhole) (arg7 : Memref sig .tc .vmem S128x512 .f32) (harg7 : arg7.IsWhole)
  (arg8 : Memref sig .tc .vmem S16x1024 .f32) (harg8 : arg8.IsWhole) (arg9 : Memref sig .tc .vmem S16x5632 .f32)
  (harg9 : arg9.IsWhole) (arg10 : Memref sig .tc .vmem S64x1024 .f32) (harg10 : arg10.IsWhole)
  (arg11 : Memref sig .tc .vmem S1024x512 .bf16) (harg11 : arg11.IsWhole)
  (arg12 : Memref sig .tc .vmem S1024x512 .bf16) (harg12 : arg12.IsWhole)
  (arg13 : Memref sig .tc .vmem S1024x512 .bf16) (harg13 : arg13.IsWhole)
  (arg14 : Memref sig .tc .vmem S1024x512 .bf16) (harg14 : arg14.IsWhole)
  (arg15 : Memref sig .tc .vmem S16x1024 .bf16) (harg15 : arg15.IsWhole) (arg16 : Memref sig .tc .vmem S16x5632 .bf16)
  (harg16 : arg16.IsWhole) (arg17 : Memref sig .tc .vmem S64x1024 .bf16) (harg17 : arg17.IsWhole)
  (arg18 : Memref sig .tc .vmem S1024x2560 .bf16) (harg18 : arg18.IsWhole)
  (arg19 : Memref sig .tc .vmem S8x128x128 .bf16) (harg19 : arg19.IsWhole) (hc0 : ¬cond0_0 i) (hc1 : cond0_1 i)
  (hc2 : ¬cond0_2 i)
variable (x0 : Vec F S1024x1024 .f32) (x1 : Vec F S1024x1024 .f32) (x2 : Vec F S1x1024 .f32) (x3 : Vec F S1024x2560 .f32)
  (x4 : Vec F S1x512 .f32) (x5 : Vec F S8x128x128 .f32) (x6 : Vec F S128x512 .f32) (x7 : Vec F S16x1024 .f32)
  (x8 : Vec F S16x5632 .f32) (x9 : Vec F S64x1024 .f32) (xs0 : Vec F S1024x2560 .bf16) (xs1 : Vec F S8x128x128 .bf16)

theorem cover0_B_10 (y : S1024x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).1 S128x128.size (by sl_kernel_rfl) y

def out0_B_10 : Vec F S1024x512 .bf16 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).1)

theorem cover0_B_11 (y : S1024x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.1 S1024x512.size (by sl_kernel_rfl) y

def out0_B_11 : Vec F S1024x512 .bf16 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.1)

theorem cover0_B_12 (y : S1024x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.1 S1024x512.size (by sl_kernel_rfl) y

def out0_B_12 : Vec F S1024x512 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.1)

theorem cover0_B_13 (y : S1024x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.1 S1024x512.size (by sl_kernel_rfl) y

def out0_B_13 : Vec F S1024x512 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.1)

theorem cover0_B_14 (y : S16x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.1 S16x1024.size (by sl_kernel_rfl) y

def out0_B_14 : Vec F S16x1024 .bf16 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.1)

theorem cover0_B_15 (y : S16x5632.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.2.1 S16x5632.size (by sl_kernel_rfl) y

def out0_B_15 : Vec F S16x5632 .bf16 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.2.1)

theorem cover0_B_16 (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.2.2.1 S64x1024.size (by sl_kernel_rfl) y

def out0_B_16 : Vec F S64x1024 .bf16 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.2.2.1)

end caseB

section caseC

variable (c : Dev nD) (i : grid0.Coords) (arg1 : Memref sig .tc .vmem S1024x1024 .f32) (harg1 : arg1.IsWhole)
  (arg2 : Memref sig .tc .vmem S1024x1024 .f32) (harg2 : arg2.IsWhole) (arg3 : Memref sig .tc .vmem S1x1024 .f32)
  (harg3 : arg3.IsWhole) (arg4 : Memref sig .tc .vmem S1024x2560 .f32) (harg4 : arg4.IsWhole)
  (arg5 : Memref sig .tc .vmem S1x512 .f32) (harg5 : arg5.IsWhole) (arg6 : Memref sig .tc .vmem S8x128x128 .f32)
  (harg6 : arg6.IsWhole) (arg7 : Memref sig .tc .vmem S128x512 .f32) (harg7 : arg7.IsWhole)
  (arg8 : Memref sig .tc .vmem S16x1024 .f32) (harg8 : arg8.IsWhole) (arg9 : Memref sig .tc .vmem S16x5632 .f32)
  (harg9 : arg9.IsWhole) (arg10 : Memref sig .tc .vmem S64x1024 .f32) (harg10 : arg10.IsWhole)
  (arg11 : Memref sig .tc .vmem S1024x512 .bf16) (harg11 : arg11.IsWhole)
  (arg12 : Memref sig .tc .vmem S1024x512 .bf16) (harg12 : arg12.IsWhole)
  (arg13 : Memref sig .tc .vmem S1024x512 .bf16) (harg13 : arg13.IsWhole)
  (arg14 : Memref sig .tc .vmem S1024x512 .bf16) (harg14 : arg14.IsWhole)
  (arg15 : Memref sig .tc .vmem S16x1024 .bf16) (harg15 : arg15.IsWhole) (arg16 : Memref sig .tc .vmem S16x5632 .bf16)
  (harg16 : arg16.IsWhole) (arg17 : Memref sig .tc .vmem S64x1024 .bf16) (harg17 : arg17.IsWhole)
  (arg18 : Memref sig .tc .vmem S1024x2560 .bf16) (harg18 : arg18.IsWhole)
  (arg19 : Memref sig .tc .vmem S8x128x128 .bf16) (harg19 : arg19.IsWhole) (hc0 : ¬cond0_0 i) (hc1 : ¬cond0_1 i)
  (hc2 : cond0_2 i)
variable (x0 : Vec F S1024x1024 .f32) (x1 : Vec F S1024x1024 .f32) (x2 : Vec F S1x1024 .f32) (x3 : Vec F S1024x2560 .f32)
  (x4 : Vec F S1x512 .f32) (x5 : Vec F S8x128x128 .f32) (x6 : Vec F S128x512 .f32) (x7 : Vec F S16x1024 .f32)
  (x8 : Vec F S16x5632 .f32) (x9 : Vec F S64x1024 .f32) (xs0 : Vec F S1024x2560 .bf16) (xs1 : Vec F S8x128x128 .bf16)

theorem cover0_C_10 (y : S1024x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).1 S128x128.size (by sl_kernel_rfl) y

def out0_C_10 : Vec F S1024x512 .bf16 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).1)

theorem cover0_C_11 (y : S1024x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.1 S1024x512.size (by sl_kernel_rfl) y

def out0_C_11 : Vec F S1024x512 .bf16 :=
  VO0_11.read (Elt F) (VO0_11.writes (Elt F) VO0_11.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.1)

theorem cover0_C_12 (y : S1024x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.1 S1024x512.size (by sl_kernel_rfl) y

def out0_C_12 : Vec F S1024x512 .bf16 :=
  VO0_12.read (Elt F) (VO0_12.writes (Elt F) VO0_12.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.1)

theorem cover0_C_13 (y : S1024x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.1 S1024x512.size (by sl_kernel_rfl) y

def out0_C_13 : Vec F S1024x512 .bf16 :=
  VO0_13.read (Elt F) (VO0_13.writes (Elt F) VO0_13.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.1)

theorem cover0_C_14 (y : S16x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.1 S16x1024.size (by sl_kernel_rfl) y

def out0_C_14 : Vec F S16x1024 .bf16 :=
  VO0_14.read (Elt F) (VO0_14.writes (Elt F) VO0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.1)

theorem cover0_C_15 (y : S16x5632.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.2.1 S16x5632.size (by sl_kernel_rfl) y

def out0_C_15 : Vec F S16x5632 .bf16 :=
  VO0_15.read (Elt F) (VO0_15.writes (Elt F) VO0_15.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.2.1)

theorem cover0_C_16 (y : S64x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.2.2.1 S64x1024.size (by sl_kernel_rfl) y

def out0_C_16 : Vec F S64x1024 .bf16 :=
  VO0_16.read (Elt F) (VO0_16.writes (Elt F) VO0_16.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).2.2.2.2.2.2.1)

end caseC

/-- This case stores nothing into the scratch: it keeps what the point before left. -/
def sout0_B_0 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x2560 .f32) (harg4 : arg4.IsWhole) (arg5 : Memref sig .tc .vmem S1x512 .f32) (harg5 : arg5.IsWhole) (arg6 : Memref sig .tc .vmem S8x128x128 .f32) (harg6 : arg6.IsWhole) (arg7 : Memref sig .tc .vmem S128x512 .f32) (harg7 : arg7.IsWhole) (arg8 : Memref sig .tc .vmem S16x1024 .f32) (harg8 : arg8.IsWhole) (arg9 : Memref sig .tc .vmem S16x5632 .f32) (harg9 : arg9.IsWhole) (arg10 : Memref sig .tc .vmem S64x1024 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S16x1024 .bf16) (harg15 : arg15.IsWhole) (arg16 : Memref sig .tc .vmem S16x5632 .bf16) (harg16 : arg16.IsWhole) (arg17 : Memref sig .tc .vmem S64x1024 .bf16) (harg17 : arg17.IsWhole) (arg18 : Memref sig .tc .vmem S1024x2560 .bf16) (harg18 : arg18.IsWhole) (arg19 : Memref sig .tc .vmem S8x128x128 .bf16) (harg19 : arg19.IsWhole) (hc0 : ¬cond0_0 i) (hc1 : cond0_1 i) (hc2 : ¬cond0_2 i)
    (x0 : Vec F S1024x1024 .f32) (x1 : Vec F S1024x1024 .f32) (x2 : Vec F S1x1024 .f32) (x3 : Vec F S1024x2560 .f32) (x4 : Vec F S1x512 .f32) (x5 : Vec F S8x128x128 .f32) (x6 : Vec F S128x512 .f32) (x7 : Vec F S16x1024 .f32) (x8 : Vec F S16x5632 .f32) (x9 : Vec F S64x1024 .f32) (xs0 : Vec F S1024x2560 .bf16) (xs1 : Vec F S8x128x128 .bf16) : Vec F S1024x2560 .bf16 := xs0

/-- This case stores nothing into the scratch: it keeps what the point before left. -/
def sout0_B_1 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x2560 .f32) (harg4 : arg4.IsWhole) (arg5 : Memref sig .tc .vmem S1x512 .f32) (harg5 : arg5.IsWhole) (arg6 : Memref sig .tc .vmem S8x128x128 .f32) (harg6 : arg6.IsWhole) (arg7 : Memref sig .tc .vmem S128x512 .f32) (harg7 : arg7.IsWhole) (arg8 : Memref sig .tc .vmem S16x1024 .f32) (harg8 : arg8.IsWhole) (arg9 : Memref sig .tc .vmem S16x5632 .f32) (harg9 : arg9.IsWhole) (arg10 : Memref sig .tc .vmem S64x1024 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S16x1024 .bf16) (harg15 : arg15.IsWhole) (arg16 : Memref sig .tc .vmem S16x5632 .bf16) (harg16 : arg16.IsWhole) (arg17 : Memref sig .tc .vmem S64x1024 .bf16) (harg17 : arg17.IsWhole) (arg18 : Memref sig .tc .vmem S1024x2560 .bf16) (harg18 : arg18.IsWhole) (arg19 : Memref sig .tc .vmem S8x128x128 .bf16) (harg19 : arg19.IsWhole) (hc0 : ¬cond0_0 i) (hc1 : cond0_1 i) (hc2 : ¬cond0_2 i)
    (x0 : Vec F S1024x1024 .f32) (x1 : Vec F S1024x1024 .f32) (x2 : Vec F S1x1024 .f32) (x3 : Vec F S1024x2560 .f32) (x4 : Vec F S1x512 .f32) (x5 : Vec F S8x128x128 .f32) (x6 : Vec F S128x512 .f32) (x7 : Vec F S16x1024 .f32) (x8 : Vec F S16x5632 .f32) (x9 : Vec F S64x1024 .f32) (xs0 : Vec F S1024x2560 .bf16) (xs1 : Vec F S8x128x128 .bf16) : Vec F S8x128x128 .bf16 := xs1

/-- This case stores nothing into the scratch: it keeps what the point before left. -/
def sout0_C_0 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x2560 .f32) (harg4 : arg4.IsWhole) (arg5 : Memref sig .tc .vmem S1x512 .f32) (harg5 : arg5.IsWhole) (arg6 : Memref sig .tc .vmem S8x128x128 .f32) (harg6 : arg6.IsWhole) (arg7 : Memref sig .tc .vmem S128x512 .f32) (harg7 : arg7.IsWhole) (arg8 : Memref sig .tc .vmem S16x1024 .f32) (harg8 : arg8.IsWhole) (arg9 : Memref sig .tc .vmem S16x5632 .f32) (harg9 : arg9.IsWhole) (arg10 : Memref sig .tc .vmem S64x1024 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S16x1024 .bf16) (harg15 : arg15.IsWhole) (arg16 : Memref sig .tc .vmem S16x5632 .bf16) (harg16 : arg16.IsWhole) (arg17 : Memref sig .tc .vmem S64x1024 .bf16) (harg17 : arg17.IsWhole) (arg18 : Memref sig .tc .vmem S1024x2560 .bf16) (harg18 : arg18.IsWhole) (arg19 : Memref sig .tc .vmem S8x128x128 .bf16) (harg19 : arg19.IsWhole) (hc0 : ¬cond0_0 i) (hc1 : ¬cond0_1 i) (hc2 : cond0_2 i)
    (x0 : Vec F S1024x1024 .f32) (x1 : Vec F S1024x1024 .f32) (x2 : Vec F S1x1024 .f32) (x3 : Vec F S1024x2560 .f32) (x4 : Vec F S1x512 .f32) (x5 : Vec F S8x128x128 .f32) (x6 : Vec F S128x512 .f32) (x7 : Vec F S16x1024 .f32) (x8 : Vec F S16x5632 .f32) (x9 : Vec F S64x1024 .f32) (xs0 : Vec F S1024x2560 .bf16) (xs1 : Vec F S8x128x128 .bf16) : Vec F S1024x2560 .bf16 := xs0

/-- This case stores nothing into the scratch: it keeps what the point before left. -/
def sout0_C_1 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x2560 .f32) (harg4 : arg4.IsWhole) (arg5 : Memref sig .tc .vmem S1x512 .f32) (harg5 : arg5.IsWhole) (arg6 : Memref sig .tc .vmem S8x128x128 .f32) (harg6 : arg6.IsWhole) (arg7 : Memref sig .tc .vmem S128x512 .f32) (harg7 : arg7.IsWhole) (arg8 : Memref sig .tc .vmem S16x1024 .f32) (harg8 : arg8.IsWhole) (arg9 : Memref sig .tc .vmem S16x5632 .f32) (harg9 : arg9.IsWhole) (arg10 : Memref sig .tc .vmem S64x1024 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S16x1024 .bf16) (harg15 : arg15.IsWhole) (arg16 : Memref sig .tc .vmem S16x5632 .bf16) (harg16 : arg16.IsWhole) (arg17 : Memref sig .tc .vmem S64x1024 .bf16) (harg17 : arg17.IsWhole) (arg18 : Memref sig .tc .vmem S1024x2560 .bf16) (harg18 : arg18.IsWhole) (arg19 : Memref sig .tc .vmem S8x128x128 .bf16) (harg19 : arg19.IsWhole) (hc0 : ¬cond0_0 i) (hc1 : ¬cond0_1 i) (hc2 : cond0_2 i)
    (x0 : Vec F S1024x1024 .f32) (x1 : Vec F S1024x1024 .f32) (x2 : Vec F S1x1024 .f32) (x3 : Vec F S1024x2560 .f32) (x4 : Vec F S1x512 .f32) (x5 : Vec F S8x128x128 .f32) (x6 : Vec F S128x512 .f32) (x7 : Vec F S16x1024 .f32) (x8 : Vec F S16x5632 .f32) (x9 : Vec F S64x1024 .f32) (xs0 : Vec F S1024x2560 .bf16) (xs1 : Vec F S8x128x128 .bf16) : Vec F S8x128x128 .bf16 := xs1

end Cert.Kernel3Ideal.Mix

end
-- ==== Proof.MixFrame.lean ====
/-
  The first mixer's run: what its buffers hold point by point, the body's contract at every point, the run of the whole
  program, and its frame. All of it holds over any type of numbers.
-/
module

public import proofs.«01_k».proof.Proof.MixOuts
public import Idealize.ShloMosaic.Lib.Claim

@[expose] public section

set_option maxRecDepth 16384

noncomputable section

namespace Cert.Kernel3Ideal.Mix

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the outputs and then the scratch hold after point `n`: the point's case run over its input blocks, with the
    scratch as the point before left it. -/
def outsAt0 (c : Dev nD) : (n : ℕ) → n < cfg0.N → Vec F S1024x512 .bf16 × Vec F S1024x512 .bf16 × Vec F S1024x512 .bf16 × Vec F S1024x512 .bf16 × Vec F S16x1024 .bf16 × Vec F S16x5632 .bf16 × Vec F S64x1024 .bf16 × Vec F S1024x2560 .bf16 × Vec F S8x128x128 .bf16
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 64 = 0 then
      if h1 : (n + 1) < 32 then
        if h2 : 32 ≤ (n + 1) then
          False.elim (by have hN : n + 1 < 64 := lt_of_lt_of_eq hn (show cfg0.N = 64 from N_0); omega)
        else
          (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
      else
        False.elim (by have hN : n + 1 < 64 := lt_of_lt_of_eq hn (show cfg0.N = 64 from N_0); omega)
    else
      if h1 : (n + 1) < 32 then
        if h2 : 32 ≤ (n + 1) then
          False.elim (by have hN : n + 1 < 64 := lt_of_lt_of_eq hn (show cfg0.N = 64 from N_0); omega)
        else
          (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2)
      else
        if h2 : 32 ≤ (n + 1) then
          (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2, out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2, out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2, out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2, out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2, out0_C_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.2.1 (outsAt0 c n (Nat.lt_of_succ_lt hn)).2.2.2.2.2.2.2.2)
        else
          False.elim (by have hN : n + 1 < 64 := lt_of_lt_of_eq hn (show cfg0.N = 64 from N_0); omega)

/-- `outsAt0` at a point of case A: that case's contents. -/
theorem outsAt0_A (c : Dev nD) (t : Fin cfg0.N) (h0 : t.val % 64 = 0) (h1 : t.val < 32) (h2 : ¬32 ≤ t.val) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 64 = 0) (h1 : t.val < 32) (h2 : ¬32 ≤ t.val) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 64 = 0) (h1 : ¬t.val < 32) (h2 : 32 ≤ t.val) :
    outsAt0 m c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The invariant before point `n`: at first the scratch holds anything, later what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.1) ∗ owns (c : Thread nD τ) scM0_1 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.1) ∗ owns (c : Thread nD τ) scM0_1 fullShare ((outsAt0 m c n hn).2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.1) ∗ owns (c : Thread nD τ) scM0_1 fullShare ((outsAt0 m c (n - 1) (by omega)).2.2.2.2.2.2.2.2)) ∗ (∃ r, prngReg c r)) := by
  cases n with
  | zero => exact absurd rfl hz
  | succ n => rfl

/-! ## The pipeline's proof data -/

/-- The proof data of the kernel: the arrays as found, what the body leaves at each point, the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
    | ⟨14, _⟩ => (outsAt0 m c t.val t.isLt).2.2.2.2.1
    | ⟨15, _⟩ => (outsAt0 m c t.val t.isLt).2.2.2.2.2.1
    | ⟨16, _⟩ => (outsAt0 m c t.val t.isLt).2.2.2.2.2.2.1
    | ⟨_ + 17, h⟩ => absurd h (Nat.not_lt.2 (Nat.le_add_left _ _))
  Φ t := PhiS m c t.val (Nat.le_of_lt_succ t.isLt)
  q _ := fullShare
  owed _ := 0

/-- The arrays of the proof data are those found at entry. -/
theorem A_eq (c : Dev nD) (w : Fin cfg0.W) : (dats m 0 c).A w = V m c (Pipeline.arrRef spec0 w) := by
  dsimp only [dats]

/-- The invariant at the start of a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, one window at a time. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]
theorem after0_14 (c : Dev nD) (t : Fin cfg0.N) : (dats m 0 c).after 14 t = (outsAt0 m c t.val t.isLt).2.2.2.2.1 := by dsimp only [dats]
theorem after0_15 (c : Dev nD) (t : Fin cfg0.N) : (dats m 0 c).after 15 t = (outsAt0 m c t.val t.isLt).2.2.2.2.2.1 := by dsimp only [dats]
theorem after0_16 (c : Dev nD) (t : Fin cfg0.N) : (dats m 0 c).after 16 t = (outsAt0 m c t.val t.isLt).2.2.2.2.2.2.1 := by dsimp only [dats]

/-- Every input buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- What the body gives back at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 19200000 in
/-- The body keeps its contract at every point: the case of the point is decided, the inputs hold their blocks, the
    case's run applies, and its stores fill the outputs and the scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases h1 : t.val < 32
    · by_cases h2 : 32 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10_A t ((hcond0_0 t).mpr h0) ((hcond0_1 t).mpr h1) (fun h => h2 ((hcond0_2 t).mp h))], after0_10]
        rw [show (dats m 0 c).leavesExact 11 t = owns (c : Thread nD τ) (ms0_11 t) fullShare ((dats m 0 c).after 11 t) from by
      unfold Dat.leavesExact; rw [liveAt0_11_A t ((hcond0_0 t).mpr h0) ((hcond0_1 t).mpr h1) (fun h => h2 ((hcond0_2 t).mp h))], after0_11]
        rw [show (dats m 0 c).leavesExact 12 t = owns (c : Thread nD τ) (ms0_12 t) fullShare ((dats m 0 c).after 12 t) from by
      unfold Dat.leavesExact; rw [liveAt0_12_A t ((hcond0_0 t).mpr h0) ((hcond0_1 t).mpr h1) (fun h => h2 ((hcond0_2 t).mp h))], after0_12]
        rw [show (dats m 0 c).leavesExact 13 t = owns (c : Thread nD τ) (ms0_13 t) fullShare ((dats m 0 c).after 13 t) from by
      unfold Dat.leavesExact; rw [liveAt0_13_A t ((hcond0_0 t).mpr h0) ((hcond0_1 t).mpr h1) (fun h => h2 ((hcond0_2 t).mp h))], after0_13]
        rw [show (dats m 0 c).leavesExact 14 t = owns (c : Thread nD τ) (ms0_14 t) fullShare ((dats m 0 c).after 14 t) from by
      unfold Dat.leavesExact; rw [liveAt0_14_A t ((hcond0_0 t).mpr h0) ((hcond0_1 t).mpr h1) (fun h => h2 ((hcond0_2 t).mp h))], after0_14]
        rw [show (dats m 0 c).leavesExact 15 t = owns (c : Thread nD τ) (ms0_15 t) fullShare ((dats m 0 c).after 15 t) from by
      unfold Dat.leavesExact; rw [liveAt0_15_A t ((hcond0_0 t).mpr h0) ((hcond0_1 t).mpr h1) (fun h => h2 ((hcond0_2 t).mp h))], after0_15]
        rw [show (dats m 0 c).leavesExact 16 t = owns (c : Thread nD τ) (ms0_16 t) fullShare ((dats m 0 c).after 16 t) from by
      unfold Dat.leavesExact; rw [liveAt0_16_A t ((hcond0_0 t).mpr h0) ((hcond0_1 t).mpr h1) (fun h => h2 ((hcond0_2 t).mp h))], after0_16]
        by_cases hz : t.val = 0
        · rw [PhiS_castSucc m c t, PhiS_zero m c _ _ hz, PhiA0_eq]
          rw [outsAt0_A m c t h0 h1 h2]
          unfold out0_A_10 out0_A_11 out0_A_12 out0_A_13 out0_A_14 out0_A_15 out0_A_16 sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
          iapply ((kernelRun0_A c (grid0.coords t) _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)).2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [H16]; · iexists _; iexact H16
          isplitl [HS0]; · iexact HS0
          isplitl [HS1]; · iexact HS1
          iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _)
          isplitl [H14]
          · unfold owns; iexists _; isplitr
            swap; · iexact H14
            ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _)
          isplitl [H15]
          · unfold owns; iexists _; isplitr
            swap; · iexact H15
            ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H16
          ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _)
        · exfalso; have hN : t.val < 64 := lt_of_lt_of_eq t.isLt (show cfg0.N = 64 from N_0); omega
    · exfalso; omega
  · by_cases h1 : t.val < 32
    · by_cases h2 : 32 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10_B t (fun h => h0 ((hcond0_0 t).mp h)) ((hcond0_1 t).mpr h1) (fun h => h2 ((hcond0_2 t).mp h))], after0_10]
        rw [show (dats m 0 c).leavesExact 11 t = owns (c : Thread nD τ) (ms0_11 t) fullShare ((dats m 0 c).after 11 t) from by
      unfold Dat.leavesExact; rw [liveAt0_11_B t (fun h => h0 ((hcond0_0 t).mp h)) ((hcond0_1 t).mpr h1) (fun h => h2 ((hcond0_2 t).mp h))], after0_11]
        rw [show (dats m 0 c).leavesExact 12 t = owns (c : Thread nD τ) (ms0_12 t) fullShare ((dats m 0 c).after 12 t) from by
      unfold Dat.leavesExact; rw [liveAt0_12_B t (fun h => h0 ((hcond0_0 t).mp h)) ((hcond0_1 t).mpr h1) (fun h => h2 ((hcond0_2 t).mp h))], after0_12]
        rw [show (dats m 0 c).leavesExact 13 t = owns (c : Thread nD τ) (ms0_13 t) fullShare ((dats m 0 c).after 13 t) from by
      unfold Dat.leavesExact; rw [liveAt0_13_B t (fun h => h0 ((hcond0_0 t).mp h)) ((hcond0_1 t).mpr h1) (fun h => h2 ((hcond0_2 t).mp h))], after0_13]
        rw [show (dats m 0 c).leavesExact 14 t = owns (c : Thread nD τ) (ms0_14 t) fullShare ((dats m 0 c).after 14 t) from by
      unfold Dat.leavesExact; rw [liveAt0_14_B t (fun h => h0 ((hcond0_0 t).mp h)) ((hcond0_1 t).mpr h1) (fun h => h2 ((hcond0_2 t).mp h))], after0_14]
        rw [show (dats m 0 c).leavesExact 15 t = owns (c : Thread nD τ) (ms0_15 t) fullShare ((dats m 0 c).after 15 t) from by
      unfold Dat.leavesExact; rw [liveAt0_15_B t (fun h => h0 ((hcond0_0 t).mp h)) ((hcond0_1 t).mpr h1) (fun h => h2 ((hcond0_2 t).mp h))], after0_15]
        rw [show (dats m 0 c).leavesExact 16 t = owns (c : Thread nD τ) (ms0_16 t) fullShare ((dats m 0 c).after 16 t) from by
      unfold Dat.leavesExact; rw [liveAt0_16_B t (fun h => h0 ((hcond0_0 t).mp h)) ((hcond0_1 t).mpr h1) (fun h => h2 ((hcond0_2 t).mp h))], after0_16]
        by_cases hz : t.val = 0
        · exfalso; have hN : t.val < 64 := lt_of_lt_of_eq t.isLt (show cfg0.N = 64 from N_0); omega
        · rw [PhiS_castSucc m c t, PhiS_pos m c _ _ hz]
          rw [outsAt0_B m c t h0 h1 h2]
          unfold out0_B_10 out0_B_11 out0_B_12 out0_B_13 out0_B_14 out0_B_15 out0_B_16 sout0_B_0 sout0_B_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
          iapply ((kernelRun0_B c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) _ _).2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [H16]; · iexists _; iexact H16
          isplitl [HS0]; · iexact HS0
          isplitl [HS1]; · iexact HS1
          iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _)
          isplitl [H14]
          · unfold owns; iexists _; isplitr
            swap; · iexact H14
            ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _)
          isplitl [H15]
          · unfold owns; iexists _; isplitr
            swap; · iexact H15
            ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H16
          ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _)
    · by_cases h2 : 32 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2)], after0_10]
        rw [show (dats m 0 c).leavesExact 11 t = owns (c : Thread nD τ) (ms0_11 t) fullShare ((dats m 0 c).after 11 t) from by
      unfold Dat.leavesExact; rw [liveAt0_11_C t (fun h => h0 ((hcond0_0 t).mp h)) (fun h => h1 ((hcond0_1 t).mp h)) ((hcond0_2 t).mpr h2)], after0_11]
        rw [show (dats m 0 c).leavesExact 12 t = owns (c : Thread nD τ) (ms0_12 t) fullShare ((dats m 0 c).after 12 t) from by
      unfold Dat.leavesExact; rw [liveAt0_12_C t (fun h => h0 ((hcond0_0 t).mp h)) (fun h => h1 ((hcond0_1 t).mp h)) ((hcond0_2 t).mpr h2)], after0_12]
        rw [show (dats m 0 c).leavesExact 13 t = owns (c : Thread nD τ) (ms0_13 t) fullShare ((dats m 0 c).after 13 t) from by
      unfold Dat.leavesExact; rw [liveAt0_13_C t (fun h => h0 ((hcond0_0 t).mp h)) (fun h => h1 ((hcond0_1 t).mp h)) ((hcond0_2 t).mpr h2)], after0_13]
        rw [show (dats m 0 c).leavesExact 14 t = owns (c : Thread nD τ) (ms0_14 t) fullShare ((dats m 0 c).after 14 t) from by
      unfold Dat.leavesExact; rw [liveAt0_14_C t (fun h => h0 ((hcond0_0 t).mp h)) (fun h => h1 ((hcond0_1 t).mp h)) ((hcond0_2 t).mpr h2)], after0_14]
        rw [show (dats m 0 c).leavesExact 15 t = owns (c : Thread nD τ) (ms0_15 t) fullShare ((dats m 0 c).after 15 t) from by
      unfold Dat.leavesExact; rw [liveAt0_15_C t (fun h => h0 ((hcond0_0 t).mp h)) (fun h => h1 ((hcond0_1 t).mp h)) ((hcond0_2 t).mpr h2)], after0_15]
        rw [show (dats m 0 c).leavesExact 16 t = owns (c : Thread nD τ) (ms0_16 t) fullShare ((dats m 0 c).after 16 t) from by
      unfold Dat.leavesExact; rw [liveAt0_16_C t (fun h => h0 ((hcond0_0 t).mp h)) (fun h => h1 ((hcond0_1 t).mp h)) ((hcond0_2 t).mpr h2)], after0_16]
        by_cases hz : t.val = 0
        · exfalso; have hN : t.val < 64 := lt_of_lt_of_eq t.isLt (show cfg0.N = 64 from N_0); omega
        · rw [PhiS_castSucc m c t, PhiS_pos m c _ _ hz]
          rw [outsAt0_C m c t h0 h1 h2]
          unfold out0_C_10 out0_C_11 out0_C_12 out0_C_13 out0_C_14 out0_C_15 out0_C_16 sout0_C_0 sout0_C_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
          iapply ((kernelRun0_C c (grid0.coords t) _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) _ _).2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [H16]; · iexists _; iexact H16
          isplitl [HS0]; · iexact HS0
          isplitl [HS1]; · iexact HS1
          iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _)
          isplitl [H14]
          · unfold owns; iexists _; isplitr
            swap; · iexact H14
            ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _)
          isplitl [H15]
          · unfold owns; iexists _; isplitr
            swap; · iexact H15
            ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H16
          ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _)
      · exfalso; omega

/-- The body of the kernel at point `t`. -/
theorem defs₀_row (t : Fin cfg0.N) :
    defs₀ (F := F) .tc cfg0.body (cfg0.bodyArgs t (cfg0.slots t)) = bodyAt0 t := by
  unfold defs₀; rw [Defs.onTc_tc]

/-- The body's contract in the form the launch asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After a point the scratch's contents may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- The run of the program, with all semaphore counters at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run of the program: it ends, with every array of the kernel as the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the argument arrays end unchanged and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel3Ideal.Mix

end
-- ==== Proof.MixMath.lean ====
module

public import proofs.«01_k».proof.Proof.FfnMath

/-! The layer's opening half — RMS norm, input projection and gated spatial mixer — as functions of
rows of extended reals. -/

@[expose] public section

set_option maxRecDepth 16384

noncomputable section

open Idealize.ShloMosaic

namespace Cert.Mix

open Cert.Ffn

/-- The RMS norm of a row of 512 entries, scaled by `g`. -/
def nrmA (x g : Fin 512 → EReal) (j : Fin 512) : EReal :=
  x j * Ideal.rsqrt (Ideal.div (∑ k, x k * x k) (Ideal.ofBits .f32 0x44000000#32) + Ideal.ofBits .f32 0x358637BD#32) * g j

/-- The input projection of a normalised row. -/
def zrow (x g : Fin 1024 → EReal) (w : Fin 1024 → Fin 2560 → EReal) (f : Fin 2560) : EReal := ∑ c, nrm x g c * w c f

/-- The gate's factor of a projected row. -/
def urow (z : Fin 2560 → EReal) (j : Fin 512) : EReal := gel (z ⟨j, by omega⟩)

/-- The mixed half of a projected row, after its GELU and norm. -/
def vrow (z : Fin 2560 → EReal) (g : Fin 512 → EReal) (j : Fin 512) : EReal := nrmA (fun j => gel (z ⟨j + 512, by omega⟩)) g j

/-- The gated mix of the rows of one chunk. -/
def mixed (u : EReal) (ws v : Fin 128 → EReal) (b : EReal) : EReal := u * (∑ s, ws s * v s + b)

end Cert.Mix

end
-- ==== Proof.MixKernel.lean ====
module

public import proofs.«01_k».proof.Proof.Gen.Kernel3Ideal.Skeleton
public import proofs.«01_k».proof.Proof.MixMath
public import Idealize.ShloMosaic.Lib.Pipeline.ValueKit

/-! What the body's payloads are, entry by entry, over any loaded vectors. -/

@[expose] public section

set_option maxRecDepth 16384

noncomputable section

open Idealize.ShloMosaic

namespace Cert.Kernel3Ideal.Mix

open Cert.Kernel3Ideal Cert.Kernel3Ideal.Gen Cert.Ffn Cert.Mix

/-- The projected rows of a block: the four row blocks' products, one below the other. -/
def zt (X : FVec Ideal S1024x1024 .f32) (g : FVec Ideal S1x1024 .f32) (W : FVec Ideal S1024x2560 .bf16) : FVec Ideal S1024x2560 .f32 :=
  k0_pay11 (F := Ideal) (k0_pay8 X g) (k0_pay9 X g W) (k0_pay10 X g) W W W

/-- The gate's factor of the block's rows. -/
def ut (X : FVec Ideal S1024x1024 .f32) (g : FVec Ideal S1x1024 .f32) (W : FVec Ideal S1024x2560 .bf16) : FVec Ideal S1024x512 .f32 :=
  k0_pay12 (F := Ideal) (k0_pay8 X g) (k0_pay9 X g W) (k0_pay10 X g) W W W

/-- The mixed half of the block's rows. -/
def vt (X : FVec Ideal S1024x1024 .f32) (g : FVec Ideal S1x1024 .f32) (W : FVec Ideal S1024x2560 .bf16) (gg : FVec Ideal S1x512 .f32) :
    FVec Ideal S1024x512 .bf16 :=
  k0_pay13 (F := Ideal) (k0_pay8 X g) (k0_pay9 X g W) (k0_pay10 X g) W W W gg

theorem h_at (X : FVec Ideal S1024x1024 .f32) (g : FVec Ideal S1x1024 .f32) (r c : Fin 1024) :
    k0_pay8 (F := Ideal) X g (ix2 r c) = nrm (fun c => X (ix2 r c)) (fun c => g (ix2 0 c)) c := by
  pointwise [k0_pay8, nrm]

theorem zt_at (X : FVec Ideal S1024x1024 .f32) (g : FVec Ideal S1x1024 .f32) (W : FVec Ideal S1024x2560 .bf16) (r : Fin 1024) (f : Fin 2560) :
    zt X g W (ix2 r f) = zrow (fun c => X (ix2 r c)) (fun c => g (ix2 0 c)) (fun c f => W (ix2 c f)) f := by
  rw [zrow]
  simp only [← h_at]
  pointwise [zt, k0_pay11, k0_pay9, k0_pay10]
  split
  · rfl
  · have e1 : ∀ h, (⟨256 + (↑r - 256), h⟩ : Fin 1024) = r := fun _ => Fin.ext (by dsimp only; omega)
    split
    · simp only [e1]
    · have e2 : ∀ h, (⟨512 + (↑r - 256 - 256), h⟩ : Fin 1024) = r := fun _ => Fin.ext (by dsimp only; omega)
      split
      · simp only [e2]
      · have e3 : ∀ h, (⟨768 + (↑r - 256 - 256 - 256), h⟩ : Fin 1024) = r := fun _ => Fin.ext (by dsimp only; omega)
        simp only [e3]

theorem ut_at (X : FVec Ideal S1024x1024 .f32) (g : FVec Ideal S1x1024 .f32) (W : FVec Ideal S1024x2560 .bf16) (r : Fin 1024) (j : Fin 512) :
    ut X g W (ix2 r j) = urow (fun f => zt X g W (ix2 r f)) j := by
  pointwise [ut, k0_pay12, urow, gel]
  rfl

theorem vt_at (X : FVec Ideal S1024x1024 .f32) (g : FVec Ideal S1x1024 .f32) (W : FVec Ideal S1024x2560 .bf16) (gg : FVec Ideal S1x512 .f32)
    (r : Fin 1024) (j : Fin 512) :
    vt X g W gg (ix2 r j) = vrow (fun f => zt X g W (ix2 r f)) (fun j => gg (ix2 0 j)) j := by
  have e : ∀ (j : Fin 512) h, (⟨512 + ↑j, h⟩ : Fin 2560) = ⟨j + 512, by omega⟩ := fun _ _ => Fin.ext (Nat.add_comm _ _)
  pointwise [vt, k0_pay13, vrow, nrmA, gel]
  simp only [e]
  rfl

theorem q_at (z : FVec Ideal S1024x2560 .f32) (r : Fin 1024) (j : Fin 512) :
    k0_pay14 (F := Ideal) z (ix2 r j) = z (ix2 r ⟨1024 + j, by omega⟩) * Ideal.ofBits .f32 0x3E38AA3B#32 := by
  pointwise [k0_pay14]

theorem k_at (z : FVec Ideal S1024x2560 .f32) (r : Fin 1024) (j : Fin 512) :
    k0_pay15 (F := Ideal) z (ix2 r j) = z (ix2 r ⟨1536 + j, by omega⟩) := by
  pointwise [k0_pay15]

theorem v_at (z : FVec Ideal S1024x2560 .f32) (r : Fin 1024) (j : Fin 512) :
    k0_pay16 (F := Ideal) z (ix2 r j) = z (ix2 r ⟨2048 + j, by omega⟩) := by
  pointwise [k0_pay16]

/-- One stored 128 × 128 piece of the gated mix: chunk rows from `o0`, columns from `o1`; the lower 64 lanes take one head's weights and
    the upper 64 the next's. -/
def piece (o0 o1 : ℕ) (hs : S1024x512.Slices ![o0, o1] S128x128) (u : FVec Ideal S1024x512 .f32) (v : FVec Ideal S1024x512 .bf16)
    (wa wb : FVec Ideal S1x128x128 .bf16) (b : FVec Ideal S128x128 .f32) : FVec Ideal S128x128 .bf16 :=
  truncf .bf16 (mulf (extractStridedSlice S128x128 ![o0, o1] u hs)
    (addf (select k0_pay17
      (matmul dot_S128x128_S128x128_S128x128_1_0_0_1_n_n none (shapeCast S128x128 wa shapeCasts_S1x128x128_S128x128) (extractStridedSlice S128x128 ![o0, o1] v hs) (constant S128x128 .f32 0x00000000#32))
      (matmul dot_S128x128_S128x128_S128x128_1_0_0_1_n_n none (shapeCast S128x128 wb shapeCasts_S1x128x128_S128x128) (extractStridedSlice S128x128 ![o0, o1] v hs) (constant S128x128 .f32 0x00000000#32)))
      (shapeCast S128x128 b shapeCasts_S128x128_S128x128))) bitsLt_bf16_f32

theorem piece_at (o0 o1 : ℕ) (hs : S1024x512.Slices ![o0, o1] S128x128) (u : FVec Ideal S1024x512 .f32) (v : FVec Ideal S1024x512 .bf16)
    (wa wb : FVec Ideal S1x128x128 .bf16) (b : FVec Ideal S128x128 .f32) (p0 p1 : Fin 128) (h0 : o0 ≤ 896) (h1 : o1 ≤ 384) :
    piece o0 o1 hs u v wa wb b (ix2 p0 p1)
      = mixed (u (ix2 ⟨o0 + p0, by omega⟩ ⟨o1 + p1, by omega⟩)) (fun s => if p1.val < 64 then wa (ix3 0 p0 s) else wb (ix3 0 p0 s))
          (fun s => v (ix2 ⟨o0 + s, by omega⟩ ⟨o1 + p1, by omega⟩)) (b (ix2 p0 p1)) := by
  pointwise [piece, k0_pay17, mixed]
  have e : ∀ q : Fin 128, IntOp.cmpi .slt (BitVec.ofNat 32 q.val) 64#32 = if q.val < 64 then 1#1 else 0#1 := by decide
  rw [e]
  by_cases h : p1.val < 64
  · simp only [if_pos h]
    rfl
  · simp only [if_neg h]
    rfl

end Cert.Kernel3Ideal.Mix

end
-- ==== Proof.MixRef.lean ====
module

public import proofs.«01_k».proof.Proof.Gen.Reference3Ideal.Run
public import proofs.«01_k».proof.Proof.MixMath
public import Idealize.ShloMosaic.Lib.Pipeline.ValueKit

/-! The reference's results, layer by layer and then entry by entry. -/

@[expose] public section

set_option maxRecDepth 16384

noncomputable section

open Idealize.ShloMosaic

namespace Cert.Reference3Ideal.Mix

open Cert.Reference3Ideal Cert.Reference3Ideal.Gen Cert.Reference3Ideal.Value Cert.Ffn Cert.Mix

/-- The tokens of the two batches, one below the other. -/
def cat (xa : FVec Ideal S2x16384x1024 .f32) (xb : FVec Ideal S8x4096x1024 .f32) : FVec Ideal S65536x1024 .f32 :=
  concatenate S65536x1024 0 [⟨S32768x1024, (shapeCast _ xa shapeCasts_S2x16384x1024_S32768x1024)⟩, ⟨S32768x1024, (shapeCast _ xb shapeCasts_S8x4096x1024_S32768x1024)⟩] concatenates_S32768x1024_S32768x1024_S65536x1024_d0

/-- The RMS norm along the channels. -/
def norm (x : FVec Ideal S65536x1024 .f32) (g : FVec Ideal S1x1024 .f32) : FVec Ideal S65536x1024 .f32 :=
  mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (shapeCast _ g shapeCasts_S1x1024_S1024)))

/-- The input projection. -/
def proj (h : FVec Ideal S65536x1024 .f32) (w : FVec Ideal S1x1024x2560 .f32) : FVec Ideal S65536x2560 .f32 :=
  Host.dotGeneral dot_S65536x1024_S1024x2560_S65536x2560_1_0_0_1_n_n none h (shapeCast _ w shapeCasts_S1x1024x2560_S1024x2560)

/-- The exact GELU of the first two parts. -/
def gelu (z : FVec Ideal S65536x2560 .f32) : FVec Ideal S65536x1024 .f32 :=
  mulf (mulf (broadcastInDim S65536x1024 ![] bcast_S_S65536x1024 (constant S_ .f32 0x3F000000#32)) (extractStridedSlice S65536x1024 ![0, 0] z slices_S65536x2560_S65536x1024_0_0)) (Host.erfc (mulf (Host.negf (extractStridedSlice S65536x1024 ![0, 0] z slices_S65536x2560_S65536x1024_0_0)) (broadcastInDim S65536x1024 ![] bcast_S_S65536x1024 (constant S_ .f32 0x3F3504F3#32))))

/-- The RMS norm of the mixed half. -/
def gnorm (v : FVec Ideal S65536x512 .f32) (g : FVec Ideal S1x512 .f32) : FVec Ideal S65536x512 .f32 :=
  mulf (mulf v (broadcastInDim S65536x512 ![0, 1] bcast_S65536x1_S65536x512_0_1 (Host.rsqrt (addf (Host.divf (broadcastInDim S65536x1 ![0] bcast_S65536_S65536x1_0 (Host.reduceAdd (mulf v v) (constant S_ .f32 0x00000000#32) reducesTo_S65536x512_S65536_d1 h_S_)) (broadcastInDim S65536x1 ![] bcast_S_S65536x1 (constant S_ .f32 0x44000000#32))) (broadcastInDim S65536x1 ![] bcast_S_S65536x1 (constant S_ .f32 0x358637BD#32)))))) (broadcastInDim S65536x512 ![0, 1] bcast_S1x512_S65536x512_0_1 (broadcastInDim S1x512 ![1] bcast_S512_S1x512_1 (shapeCast _ g shapeCasts_S1x512_S512)))

/-- The mix of each chunk's tokens, gated. -/
def gating (u v : FVec Ideal S65536x512 .f32) (w : FVec Ideal S1x8x128x128 .f32) (b : FVec Ideal S1x8x128 .f32) : FVec Ideal S65536x512 .bf16 :=
  truncf .bf16 (shapeCast _ (mulf (shapeCast _ u shapeCasts_S65536x512_S65536x8x64) (shapeCast _ (addf (transpose S512x128x8x64 [1, 3, 0, 2] (Host.dotGeneral dot_S512x128x8x64_S8x128x128_S8x512x64x128_1_2_03_1_2_0 none (shapeCast _ (shapeCast _ v shapeCasts_S65536x512_S65536x8x64) shapeCasts_S65536x8x64_S512x128x8x64) (shapeCast _ w shapeCasts_S1x8x128x128_S8x128x128)) transposes_S8x512x64x128_S512x128x8x64_1_3_0_2) (broadcastInDim S512x128x8x64 ![0, 1, 2, 3] bcast_S1x128x8x1_S512x128x8x64_0_1_2_3 (broadcastInDim S1x128x8x1 ![1, 2] bcast_S128x8_S1x128x8x1_1_2 (transpose S128x8 [1, 0] (shapeCast _ b shapeCasts_S1x8x128_S8x128) transposes_S8x128_S128x8_1_0)))) shapeCasts_S512x128x8x64_S65536x8x64)) shapeCasts_S65536x8x64_S65536x512) bitsLt_bf16_f32

/-- All tokens' projections. -/
def zall (xa : FVec Ideal S2x16384x1024 .f32) (xb : FVec Ideal S8x4096x1024 .f32) (g : FVec Ideal S1x1024 .f32) (w : FVec Ideal S1x1024x2560 .f32) : FVec Ideal S65536x2560 .f32 :=
  proj (norm (cat xa xb) g) w

/-- The gated spatial mixer's result. -/
def ya (z : FVec Ideal S65536x2560 .f32) (gg : FVec Ideal S1x512 .f32) (w : FVec Ideal S1x8x128x128 .f32) (b : FVec Ideal S1x8x128 .f32) : FVec Ideal S65536x512 .bf16 :=
  gating (extractStridedSlice S65536x512 ![0, 0] (gelu z) slices_S65536x1024_S65536x512_0_0)
    (gnorm (extractStridedSlice S65536x512 ![0, 512] (gelu z) slices_S65536x1024_S65536x512_0_512) gg) w b

/-- The scaled queries. -/
def qs (z : FVec Ideal S65536x2560 .f32) : FVec Ideal S65536x512 .bf16 :=
  truncf .bf16 (mulf (extractStridedSlice S65536x512 ![0, 1024] z slices_S65536x2560_S65536x512_0_1024) (broadcastInDim S65536x512 ![] bcast_S_S65536x512 (constant S_ .f32 0x3E38AA3B#32))) bitsLt_bf16_f32

/-- The keys. -/
def ks (z : FVec Ideal S65536x2560 .f32) : FVec Ideal S65536x512 .bf16 :=
  truncf .bf16 (extractStridedSlice S65536x512 ![0, 1536] z slices_S65536x2560_S65536x512_0_1536) bitsLt_bf16_f32

/-- The values. -/
def vs (z : FVec Ideal S65536x2560 .f32) : FVec Ideal S65536x512 .bf16 :=
  truncf .bf16 (extractStridedSlice S65536x512 ![0, 2048] z slices_S65536x2560_S65536x512_0_2048) bitsLt_bf16_f32

set_option maxHeartbeats 1600000 in
/-- The first result is the composition of the layers. -/
theorem res_eq (m : (ℓ : Loc nD τ sig) → Buf (Elt Ideal) ℓ) (c : Dev nD) :
    res_main_v62 (F := Ideal) m c = ya (zall (m ((c.tc : Thread nD τ).loc main_arg0) : FVec Ideal S2x16384x1024 .f32) (m ((c.tc : Thread nD τ).loc main_arg1) : FVec Ideal S8x4096x1024 .f32) (m ((c.tc : Thread nD τ).loc main_arg2) : FVec Ideal S1x1024 .f32) (m ((c.tc : Thread nD τ).loc main_arg3) : FVec Ideal S1x1024x2560 .f32)) (m ((c.tc : Thread nD τ).loc main_arg4) : FVec Ideal S1x512 .f32) (m ((c.tc : Thread nD τ).loc main_arg5) : FVec Ideal S1x8x128x128 .f32) (m ((c.tc : Thread nD τ).loc main_arg6) : FVec Ideal S1x8x128 .f32) := rfl

theorem cat_lo (xa : FVec Ideal S2x16384x1024 .f32) (xb : FVec Ideal S8x4096x1024 .f32) (n : Fin 65536) (c : Fin 1024) (h : n.val < 32768) :
    cat xa xb (ix2 n c) = xa (ix3 ⟨n / 16384, by omega⟩ ⟨n % 16384, by omega⟩ c) := by
  pointwise [cat]
  rw [dif_pos h]

theorem cat_hi (xa : FVec Ideal S2x16384x1024 .f32) (xb : FVec Ideal S8x4096x1024 .f32) (n : Fin 65536) (c : Fin 1024) (h : 32768 ≤ n.val) :
    cat xa xb (ix2 n c) = xb (ix3 ⟨(n - 32768) / 4096, by omega⟩ ⟨(n - 32768) % 4096, by omega⟩ c) := by
  pointwise [cat]
  rw [dif_neg (by omega)]

theorem norm_at (x : FVec Ideal S65536x1024 .f32) (g : FVec Ideal S1x1024 .f32) (n : Fin 65536) (c : Fin 1024) :
    norm x g (ix2 n c) = nrm (fun c => x (ix2 n c)) (fun c => g (ix2 0 c)) c := by
  pointwise [norm, nrm]

theorem proj_at (h : FVec Ideal S65536x1024 .f32) (w : FVec Ideal S1x1024x2560 .f32) (n : Fin 65536) (f : Fin 2560) :
    proj h w (ix2 n f) = ∑ c : Fin 1024, h (ix2 n c) * w (ix3 0 c f) := by
  pointwise [proj]

theorem gelu_at (z : FVec Ideal S65536x2560 .f32) (n : Fin 65536) (j : Fin 1024) :
    gelu z (ix2 n j) = gel (z (ix2 n ⟨j, by omega⟩)) := by
  pointwise [gelu, gel]
  rw [EReal.neg_mul, Ideal.erfc_neg]

theorem gnorm_at (v : FVec Ideal S65536x512 .f32) (g : FVec Ideal S1x512 .f32) (n : Fin 65536) (j : Fin 512) :
    gnorm v g (ix2 n j) = nrmA (fun j => v (ix2 n j)) (fun j => g (ix2 0 j)) j := by
  pointwise [gnorm, nrmA]

theorem gating_at (u v : FVec Ideal S65536x512 .f32) (w : FVec Ideal S1x8x128x128 .f32) (b : FVec Ideal S1x8x128 .f32) (n : Fin 65536) (j : Fin 512) :
    gating u v w b (ix2 n j)
      = mixed (u (ix2 n j)) (fun s => w (ix4 0 ⟨j / 64, by omega⟩ ⟨n % 128, by omega⟩ s))
          (fun s => v (ix2 ⟨n / 128 * 128 + s, by omega⟩ j)) (b (ix3 0 ⟨j / 64, by omega⟩ ⟨n % 128, by omega⟩)) := by
  pointwise [gating, mixed]
  simp only [mul_comm (v _)]

theorem zall_at (xa : FVec Ideal S2x16384x1024 .f32) (xb : FVec Ideal S8x4096x1024 .f32) (g : FVec Ideal S1x1024 .f32) (w : FVec Ideal S1x1024x2560 .f32) (n : Fin 65536) (f : Fin 2560) :
    zall xa xb g w (ix2 n f) = zrow (fun c => cat xa xb (ix2 n c)) (fun c => g (ix2 0 c)) (fun c f => w (ix3 0 c f)) f := by
  rw [zall, proj_at, zrow]
  simp only [norm_at]

theorem ya_at (z : FVec Ideal S65536x2560 .f32) (gg : FVec Ideal S1x512 .f32) (w : FVec Ideal S1x8x128x128 .f32) (b : FVec Ideal S1x8x128 .f32) (n : Fin 65536) (j : Fin 512) :
    ya z gg w b (ix2 n j)
      = mixed (urow (fun f => z (ix2 n f)) j) (fun s => w (ix4 0 ⟨j / 64, by omega⟩ ⟨n % 128, by omega⟩ s))
          (fun s => vrow (fun f => z (ix2 ⟨n / 128 * 128 + s, by omega⟩ f)) (fun j => gg (ix2 0 j)) j)
          (b (ix3 0 ⟨j / 64, by omega⟩ ⟨n % 128, by omega⟩)) := by
  rw [ya, gating_at]
  have eu : ∀ (n : Fin 65536) (j : Fin 512), (extractStridedSlice S65536x512 ![0, 0] (gelu z) slices_S65536x1024_S65536x512_0_0 : FVec Ideal S65536x512 .f32) (ix2 n j)
      = urow (fun f => z (ix2 n f)) j := by
    intro n j
    pointwise []
    rw [gelu_at, urow]
  have ev : ∀ (n : Fin 65536) (j : Fin 512), (extractStridedSlice S65536x512 ![0, 512] (gelu z) slices_S65536x1024_S65536x512_0_512 : FVec Ideal S65536x512 .f32) (ix2 n j)
      = gel (z (ix2 n ⟨j + 512, by omega⟩)) := by
    intro n j
    pointwise []
    rw [gelu_at]
    congr 3
    exact Fin.ext (Nat.add_comm _ _)
  simp only [gnorm_at, eu, ev]
  rfl

theorem qs_at (z : FVec Ideal S65536x2560 .f32) (n : Fin 65536) (j : Fin 512) :
    qs z (ix2 n j) = z (ix2 n ⟨1024 + j, by omega⟩) * Ideal.ofBits .f32 0x3E38AA3B#32 := by
  pointwise [qs]

theorem ks_at (z : FVec Ideal S65536x2560 .f32) (n : Fin 65536) (j : Fin 512) : ks z (ix2 n j) = z (ix2 n ⟨1536 + j, by omega⟩) := by
  pointwise [ks]

theorem vs_at (z : FVec Ideal S65536x2560 .f32) (n : Fin 65536) (j : Fin 512) : vs z (ix2 n j) = z (ix2 n ⟨2048 + j, by omega⟩) := by
  pointwise [vs]

end Cert.Reference3Ideal.Mix

end
-- ==== Proof.MixBlocks.lean ====
module

public import proofs.«01_k».proof.Proof.MixFrame
public import proofs.«01_k».proof.Proof.MixKernel
public import proofs.«01_k».proof.Proof.MixRef

/-! What the staged blocks hold, entry by entry. -/

@[expose] public section

set_option maxRecDepth 16384

noncomputable section

open Idealize.ShloMosaic

namespace Cert.Kernel3Ideal.Mix

open Cert.Kernel3Ideal Cert.Kernel3Ideal.Gen Cert.Ffn Cert.Mix

/-- The block each window reads or writes at a grid point. -/
theorem idx : ∀ t : Fin cfg0.N,
    win0_0.index t = ![min t.val 31, 0] ∧ win0_1.index t = ![t.val - 32, 0] ∧ win0_2.index t = ![0, 0] ∧ win0_3.index t = ![0, 0]
    ∧ win0_4.index t = ![0, 0] ∧ win0_5.index t = ![0, 0, 0] ∧ win0_6.index t = ![0, 0] ∧ win0_10.index t = ![t.val, 0]
    ∧ win0_11.index t = ![t.val, 0] ∧ win0_12.index t = ![t.val, 0] ∧ win0_13.index t = ![t.val, 0] :=
  (by decide +kernel : ∀ t : Fin grid0.N, _)

variable (m : (ℓ : Loc nD τ sig) → Buf (Elt Ideal) ℓ) (c : Dev nD)

/-- All the tokens the reference works on, over the kernel's arrays. -/
def rows : FVec Ideal Cert.Reference3Ideal.S65536x1024 .f32 :=
  Cert.Reference3Ideal.Mix.cat (m ((c.tc : Thread nD τ).loc main_arg0) : FVec Ideal S2x16384x1024 .f32) (m ((c.tc : Thread nD τ).loc main_arg1) : FVec Ideal S8x4096x1024 .f32)

theorem blk0 (t : Fin cfg0.N) (h : t.val < 32) (r k : Fin 1024) :
    iblk m c 0 t (ix2 r k) = rows m c (ix2 ⟨t.val * 1024 + r, by omega⟩ k) := by
  have ht := t.isLt
  have hN : cfg0.N = 64 := rfl
  rw [rows, Cert.Reference3Ideal.Mix.cat_lo _ _ _ _ (by dsimp only; omega)]
  unfold iblk
  entry_read
  blk_simp [idx t]
  pointwise []
  blk_ext [idx t]

theorem blk1 (t : Fin cfg0.N) (h : 32 ≤ t.val) (r k : Fin 1024) :
    iblk m c 1 t (ix2 r k) = rows m c (ix2 ⟨t.val * 1024 + r, by have := t.isLt; have : cfg0.N = 64 := rfl; omega⟩ k) := by
  have ht := t.isLt
  have hN : cfg0.N = 64 := rfl
  rw [rows, Cert.Reference3Ideal.Mix.cat_hi _ _ _ _ (by dsimp only; omega)]
  unfold iblk
  entry_read
  blk_simp [idx t]
  pointwise []
  blk_ext [idx t]

theorem blk2 (t : Fin cfg0.N) (k : Fin 1024) :
    iblk m c 2 t (ix2 0 k) = (m ((c.tc : Thread nD τ).loc main_arg2) : FVec Ideal S1x1024 .f32) (ix2 0 k) := by
  unfold iblk
  entry_read
  blk_simp [idx t]
  pointwise []
  blk_ext [idx t]

theorem blk3 (t : Fin cfg0.N) (k : Fin 1024) (f : Fin 2560) :
    iblk m c 3 t (ix2 k f) = (m ((c.tc : Thread nD τ).loc main_arg3) : FVec Ideal S1x1024x2560 .f32) (ix3 0 k f) := by
  unfold iblk
  entry_read
  blk_simp [idx t]
  pointwise []
  blk_ext [idx t]

theorem blk4 (t : Fin cfg0.N) (k : Fin 512) :
    iblk m c 4 t (ix2 0 k) = (m ((c.tc : Thread nD τ).loc main_arg4) : FVec Ideal S1x512 .f32) (ix2 0 k) := by
  unfold iblk
  entry_read
  blk_simp [idx t]
  pointwise []
  blk_ext [idx t]

theorem blk5 (t : Fin cfg0.N) (a : Fin 8) (p s : Fin 128) :
    iblk m c 5 t (ix3 a p s) = (m ((c.tc : Thread nD τ).loc main_arg5) : FVec Ideal S1x8x128x128 .f32) (ix4 0 a p s) := by
  unfold iblk
  entry_read
  blk_simp [idx t]
  pointwise []
  blk_ext [idx t]

theorem blk6 (t : Fin cfg0.N) (p : Fin 128) (j : Fin 512) :
    iblk m c 6 t (ix2 p j) = (m ((c.tc : Thread nD τ).loc main_arg6) : FVec Ideal S1x8x128 .f32) (ix3 0 ⟨j / 64, by omega⟩ p) := by
  unfold iblk
  entry_read
  blk_simp [idx t]
  pointwise []
  blk_ext [idx t]

end Cert.Kernel3Ideal.Mix

end
-- ==== Proof.MixTile.lean ====
module

public import proofs.«01_k».proof.Proof.MixBlocks

/-! What the body leaves in its outputs at a grid point, entry by entry, in each of the three cases. -/

@[expose] public section

set_option maxRecDepth 16384

noncomputable section

open Idealize.ShloMosaic

namespace Cert.Kernel3Ideal.Mix

open Cert.Kernel3Ideal Cert.Kernel3Ideal.Gen Cert.Ffn Cert.Mix

/-- An entry of the gated mix of a block: row `r` of the block's chunk `r / 128`, column `j` of head `j / 64`. -/
def gated (u : FVec Ideal S1024x512 .f32) (v : FVec Ideal S1024x512 .bf16) (ws : FVec Ideal S8x128x128 .bf16)
    (b : FVec Ideal S128x512 .f32) (r : Fin 1024) (j : Fin 512) : EReal :=
  mixed (u (ix2 r j)) (fun s => ws (ix3 ⟨j / 64, by omega⟩ ⟨r % 128, by omega⟩ s))
    (fun s => v (ix2 ⟨r / 128 * 128 + s, by omega⟩ j)) (b (ix2 ⟨r % 128, by omega⟩ j))

/-- A stored piece is the gated mix at its place in the block. -/
theorem piece_gated (o0 o1 n n' : ℕ) (hs : S1024x512.Slices ![o0, o1] S128x128) (u : FVec Ideal S1024x512 .f32)
    (v : FVec Ideal S1024x512 .bf16) (ws : FVec Ideal S8x128x128 .bf16) (b : FVec Ideal S128x512 .f32)
    (i1 : ∀ a, (![n, 0, 0] : Fin 3 → ℕ) a + S1x128x128.size a ≤ S8x128x128.size a)
    (i2 : ∀ a, (![n', 0, 0] : Fin 3 → ℕ) a + S1x128x128.size a ≤ S8x128x128.size a)
    (i3 : ∀ a, (![0, o1] : Fin 2 → ℕ) a + S128x128.size a ≤ S128x512.size a)
    (h0 : o0 ≤ 896) (h1 : o1 ≤ 384) (d0 : o0 % 128 = 0) (d1 : o1 = n * 64) (d2 : n' = n + 1) (p : S128x128.Idx) (y : S1024x512.Idx)
    (k0 : (y 0 : ℕ) = o0 + p 0) (k1 : (y 1 : ℕ) = o1 + p 1)
    (q : FVec Ideal S128x128 .bf16)
    (hq : q = piece o0 o1 hs u v (View.ld (Val := Elt Ideal) (e' := .bf16) ws (Rect.unit (s := S8x128x128) ![n, 0, 0] S1x128x128.size i1))
        (View.ld (Val := Elt Ideal) (e' := .bf16) ws (Rect.unit (s := S8x128x128) ![n', 0, 0] S1x128x128.size i2))
        (View.ld (Val := Elt Ideal) (e' := .f32) b (Rect.unit (s := S128x512) ![0, o1] S128x128.size i3))) :
    q p = gated u v ws b (y 0) (y 1) := by
  rw [hq]
  idx_vars p
  idx_vars y
  have q0 : p0.val < 128 := p0.isLt
  have q1 : p1.val < 128 := p1.isLt
  have r0 : y0.val < 1024 := y0.isLt
  have r1 : y1.val < 512 := y1.isLt
  have k0 : y0.val = o0 + p0.val := k0
  have k1 : y1.val = o1 + p1.val := k1
  rw [piece_at o0 o1 hs u v _ _ _ p0 p1 h0 h1, gated]
  have e0 : (⟨o0 + p0, by omega⟩ : Fin 1024) = y0 := Fin.ext k0.symm
  have e1 : (⟨o1 + p1, by omega⟩ : Fin 512) = y1 := Fin.ext k1.symm
  have hp : (⟨y0 % 128, by omega⟩ : Fin 128) = p0 := Fin.ext (by dsimp only; omega)
  simp only [e0, e1]
  show mixed _ _ _ _ = mixed (u (ix2 y0 y1)) (fun s => ws (ix3 ⟨y1 / 64, by omega⟩ ⟨y0 % 128, by omega⟩ s))
    (fun s => v (ix2 ⟨y0 / 128 * 128 + s, by omega⟩ y1)) (b (ix2 ⟨y0 % 128, by omega⟩ y1))
  congr 1
  · funext s
    by_cases h : p1.val < 64
    · rw [if_pos h]
      refine congrArg ws (funext fun a => Fin.ext ?_)
      match a with
      | ⟨0, _⟩ => show n + 1 * 0 = y1.val / 64; omega
      | ⟨1, _⟩ => show 0 + 1 * p0.val = y0.val % 128; omega
      | ⟨2, _⟩ => show 0 + 1 * s.val = s.val; omega
    · rw [if_neg h]
      refine congrArg ws (funext fun a => Fin.ext ?_)
      match a with
      | ⟨0, _⟩ => show n' + 1 * 0 = y1.val / 64; omega
      | ⟨1, _⟩ => show 0 + 1 * p0.val = y0.val % 128; omega
      | ⟨2, _⟩ => show 0 + 1 * s.val = s.val; omega
  · funext s
    refine congrArg (fun q => v (ix2 q y1)) (Fin.ext ?_)
    show o0 + s.val = y0.val / 128 * 128 + s.val
    omega
  · refine congrArg b (funext fun a => Fin.ext ?_)
    match a with
    | ⟨0, _⟩ => show 0 + 1 * p0.val = y0.val % 128; omega
    | ⟨1, _⟩ => show o1 + 1 * p1.val = y1.val; omega

/-- What the first scratch holds, read back. -/
theorem sc0_read (h : scM0_0.IsWhole) (x : FVec Ideal S1024x2560 .bf16) :
    View.read (Elt Ideal) (View.whole cc0_scratch0) (h.unread x) = x := h.read_unread (Val := Elt Ideal) x

/-- What the second scratch holds, read back. -/
theorem sc1_read (h : scM0_1.IsWhole) (x : FVec Ideal S8x128x128 .bf16) :
    View.read (Elt Ideal) (View.whole cc0_scratch1) (h.unread x) = x := h.read_unread (Val := Elt Ideal) x

/-- A part of a buffer, read back just after the buffer was stored whole. -/
theorem part_read {S : Shape} {e : EltTy} {sp : Space} (v : View sig .tc sp S e) {off : Fin S.rank → ℕ}
    (inb : ∀ a, off a + S.size a ≤ S.size a) (x : S.Idx → Elt Ideal e) (r : Rect S) (h : ∀ a, off a = 0) :
    v.readCov (Val := Elt Ideal) [(⟨Rect.unit off (no_index S.size) inb, x⟩ : View.Piece (Elt Ideal) S e)] r.toLoadRect
      = View.ld x r := by
  rw [View.readCov_eq_canon_ld _ _ _ (fun y => ⟨_, List.mem_cons_self, View.mem_set_unit_zero (funext h) inb y⟩),
    View.canon_cons_unit_lit' inb x [] h]

variable (m : (ℓ : Loc nD τ sig) → Buf (Elt Ideal) ℓ) (c : Dev nD)

/-- The scratch at the first point. -/
theorem sc0_A (t : Fin cfg0.N) (h0 : t.val % 64 = 0) (h1 : t.val < 32) (h2 : ¬32 ≤ t.val) :
    (outsAt0 m c t.val t.isLt).2.2.2.2.2.2.2.1 = (k0_pay1 (F := Ideal) (iblk m c 3 t)) := by
  rw [outsAt0_A m c t h0 h1 h2]
  frame_out

theorem sc1_A (t : Fin cfg0.N) (h0 : t.val % 64 = 0) (h1 : t.val < 32) (h2 : ¬32 ≤ t.val) :
    (outsAt0 m c t.val t.isLt).2.2.2.2.2.2.2.2 = (k0_pay2 (F := Ideal) (iblk m c 5 t)) := by
  rw [outsAt0_A m c t h0 h1 h2]
  frame_out

/-- The queries at the first point. -/
theorem o11_A (t : Fin cfg0.N) (h0 : t.val % 64 = 0) (h1 : t.val < 32) (h2 : ¬32 ≤ t.val) :
    (outsAt0 m c t.val t.isLt).2.1 = k0_pay14 (F := Ideal) (zt (iblk m c 0 t) (iblk m c 2 t) (k0_pay1 (F := Ideal) (iblk m c 3 t))) := by
  rw [outsAt0_A m c t h0 h1 h2]
  frame_out
  rfl

/-- The keys at the first point. -/
theorem o12_A (t : Fin cfg0.N) (h0 : t.val % 64 = 0) (h1 : t.val < 32) (h2 : ¬32 ≤ t.val) :
    (outsAt0 m c t.val t.isLt).2.2.1 = k0_pay15 (F := Ideal) (zt (iblk m c 0 t) (iblk m c 2 t) (k0_pay1 (F := Ideal) (iblk m c 3 t))) := by
  rw [outsAt0_A m c t h0 h1 h2]
  frame_out
  rfl

/-- The values at the first point. -/
theorem o13_A (t : Fin cfg0.N) (h0 : t.val % 64 = 0) (h1 : t.val < 32) (h2 : ¬32 ≤ t.val) :
    (outsAt0 m c t.val t.isLt).2.2.2.1 = k0_pay16 (F := Ideal) (zt (iblk m c 0 t) (iblk m c 2 t) (k0_pay1 (F := Ideal) (iblk m c 3 t))) := by
  rw [outsAt0_A m c t h0 h1 h2]
  frame_out
  rfl

/-- The gated mix at the first point. -/
theorem o10_A (t : Fin cfg0.N) (h0 : t.val % 64 = 0) (h1 : t.val < 32) (h2 : ¬32 ≤ t.val) (y : S1024x512.Idx) :
    (outsAt0 m c t.val t.isLt).1 y
      = gated (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) (y 0) (y 1) := by
  rw [outsAt0_A m c t h0 h1 h2]
  frame_out
  simp (disch := decide) only [part_read]
  canon_tiles p k
  · exact piece_gated 896 384 6 7 slices_S1024x512_o896_384_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 896 256 4 5 slices_S1024x512_o896_256_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 896 128 2 3 slices_S1024x512_o896_128_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 896 0 0 1 slices_S1024x512_o896_0_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 768 384 6 7 slices_S1024x512_o768_384_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 768 256 4 5 slices_S1024x512_o768_256_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 768 128 2 3 slices_S1024x512_o768_128_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 768 0 0 1 slices_S1024x512_o768_0_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 640 384 6 7 slices_S1024x512_o640_384_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 640 256 4 5 slices_S1024x512_o640_256_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 640 128 2 3 slices_S1024x512_o640_128_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 640 0 0 1 slices_S1024x512_o640_0_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 512 384 6 7 slices_S1024x512_o512_384_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 512 256 4 5 slices_S1024x512_o512_256_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 512 128 2 3 slices_S1024x512_o512_128_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 512 0 0 1 slices_S1024x512_o512_0_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 384 384 6 7 slices_S1024x512_o384_384_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 384 256 4 5 slices_S1024x512_o384_256_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 384 128 2 3 slices_S1024x512_o384_128_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 384 0 0 1 slices_S1024x512_o384_0_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 256 384 6 7 slices_S1024x512_o256_384_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 256 256 4 5 slices_S1024x512_o256_256_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 256 128 2 3 slices_S1024x512_o256_128_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 256 0 0 1 slices_S1024x512_o256_0_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 128 384 6 7 slices_S1024x512_o128_384_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 128 256 4 5 slices_S1024x512_o128_256_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 128 128 2 3 slices_S1024x512_o128_128_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 128 0 0 1 slices_S1024x512_o128_0_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 0 384 6 7 slices_S1024x512_o0_384_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 0 256 4 5 slices_S1024x512_o0_256_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 0 128 2 3 slices_S1024x512_o0_128_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl
  · exact piece_gated 0 0 0 1 slices_S1024x512_o0_0_S128x128 (ut (iblk m c 0 t) (iblk m c 2 t) (k0_pay1 (F := Ideal) (iblk m c 3 t))) (vt (iblk m c 0 t) (iblk m c 2 t) (k0_pay1 (F := Ideal) (iblk m c 3 t)) (iblk m c 4 t)) (k0_pay2 (F := Ideal) (iblk m c 5 t)) (iblk m c 6 t) _ _ _ (by omega) (by omega) (by omega) (by omega) (by omega) p y (by omega) (by omega) _ rfl

/-- The scratch at a later point over the first input. -/
theorem sc0_B (t : Fin cfg0.N) (h0 : ¬t.val % 64 = 0) (h1 : t.val < 32) (h2 : ¬32 ≤ t.val) :
    (outsAt0 m c t.val t.isLt).2.2.2.2.2.2.2.1 = ((outsAt0 m c (t.val - 1) (Nat.lt_of_le_of_lt (Nat.sub_le _ _) t.isLt)).2.2.2.2.2.2.2.1) := by
  rw [outsAt0_B m c t h0 h1 h2]
  rfl

theorem sc1_B (t : Fin cfg0.N) (h0 : ¬t.val % 64 = 0) (h1 : t.val < 32) (h2 : ¬32 ≤ t.val) :
    (outsAt0 m c t.val t.isLt).2.2.2.2.2.2.2.2 = ((outsAt0 m c (t.val - 1) (Nat.lt_of_le_of_lt (Nat.sub_le _ _) t.isLt)).2.2.2.2.2.2.2.2) := by
  rw [outsAt0_B m c t h0 h1 h2]
  rfl

/-- The queries at a later point over the first input. -/
theorem o11_B (t : Fin cfg0.N) (h0 : ¬t.val % 64 = 0) (h1 : t.val < 32) (h2 : ¬32 ≤ t.val) :
    (outsAt0 m c t.val t.isLt).2.1 = k0_pay14 (F := Ideal) (zt (iblk m c 0 t) (iblk m c 2 t) ((outsAt0 m c (t.val - 1) (Nat.lt_of_le_of_lt (Nat.sub_le _ _) t.isLt)).2.2.2.2.2.2.2.1)) := by
  rw [outsAt0_B m c t h0 h1 h2]
  frame_out
  simp only [sc0_read]
  rfl

/-- The keys at a later point over the first input. -/
theorem o12_B (t : Fin cfg0.N) (h0 : ¬t.val % 64 = 0) (h1 : t.val < 32) (h2 : ¬32 ≤ t.val) :
    (outsAt0 m c t.val t.isLt).2.2.1 = k0_pay15 (F := Ideal) (zt (iblk m c 0 t) (iblk m c 2 t) ((outsAt0 m c (t.val - 1) (Nat.lt_of_le_of_lt (Nat.sub_le _ _) t.isLt)).2.2.2.2.2.2.2.1)) := by
  rw [outsAt0_B m c t h0 h1 h2]
  frame_out
  simp only [sc0_read]
  rfl

/-- The values at a later point over the first input. -/
theorem o13_B (t : Fin cfg0.N) (h0 : ¬t.val % 64 = 0) (h1 : t.val < 32) (h2 : ¬32 ≤ t.val) :
    (outsAt0 m c t.val t.isLt).2.2.2.1 = k0_pay16 (F := Ideal) (zt (iblk m c 0 t) (iblk m c 2 t) ((outsAt0 m c (t.val - 1) (Nat.lt_of_le_of_lt (Nat.sub_le _ _) t.isLt)).2.2.2.2.2.2.2.1)) := by
  rw [outsAt0_B m c t h0 h1 h2]
  frame_out
  simp only [sc0_read]
  rfl

/-- The gated mix at a later point over the first input. -/
theorem o10_B (t : Fin cfg0.N) (h0 : ¬t.val % 64 = 0) (h1 : t.val < 32) (h2 : ¬32 ≤ t.val) (y : S1024x512.Idx) :
    (outsAt0 m c t.val t.isLt).1 y
      = gated (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) (y 0) (y 1) := by
  rw [outsAt0_B m c t h0 h1 h2]
  frame_out
  simp only [sc0_read, sc1_read]
  canon_tiles p k
  · exact piece_gated 896 384 6 7 slices_S1024x512_o896_384_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 896 256 4 5 slices_S1024x512_o896_256_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 896 128 2 3 slices_S1024x512_o896_128_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 896 0 0 1 slices_S1024x512_o896_0_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 768 384 6 7 slices_S1024x512_o768_384_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 768 256 4 5 slices_S1024x512_o768_256_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 768 128 2 3 slices_S1024x512_o768_128_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 768 0 0 1 slices_S1024x512_o768_0_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 640 384 6 7 slices_S1024x512_o640_384_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 640 256 4 5 slices_S1024x512_o640_256_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 640 128 2 3 slices_S1024x512_o640_128_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 640 0 0 1 slices_S1024x512_o640_0_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 512 384 6 7 slices_S1024x512_o512_384_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 512 256 4 5 slices_S1024x512_o512_256_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 512 128 2 3 slices_S1024x512_o512_128_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 512 0 0 1 slices_S1024x512_o512_0_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 384 384 6 7 slices_S1024x512_o384_384_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 384 256 4 5 slices_S1024x512_o384_256_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 384 128 2 3 slices_S1024x512_o384_128_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 384 0 0 1 slices_S1024x512_o384_0_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 256 384 6 7 slices_S1024x512_o256_384_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 256 256 4 5 slices_S1024x512_o256_256_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 256 128 2 3 slices_S1024x512_o256_128_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 256 0 0 1 slices_S1024x512_o256_0_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 128 384 6 7 slices_S1024x512_o128_384_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 128 256 4 5 slices_S1024x512_o128_256_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 128 128 2 3 slices_S1024x512_o128_128_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 128 0 0 1 slices_S1024x512_o128_0_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 0 384 6 7 slices_S1024x512_o0_384_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 0 256 4 5 slices_S1024x512_o0_256_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 0 128 2 3 slices_S1024x512_o0_128_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 0 0 0 1 slices_S1024x512_o0_0_S128x128 (ut (iblk m c 0 t) (iblk m c 2 t) ((outsAt0 m c (t.val - 1) (Nat.lt_of_le_of_lt (Nat.sub_le _ _) t.isLt)).2.2.2.2.2.2.2.1)) (vt (iblk m c 0 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl

/-- The scratch at a point over the second input. -/
theorem sc0_C (t : Fin cfg0.N) (h0 : ¬t.val % 64 = 0) (h1 : ¬t.val < 32) (h2 : 32 ≤ t.val) :
    (outsAt0 m c t.val t.isLt).2.2.2.2.2.2.2.1 = ((outsAt0 m c (t.val - 1) (Nat.lt_of_le_of_lt (Nat.sub_le _ _) t.isLt)).2.2.2.2.2.2.2.1) := by
  rw [outsAt0_C m c t h0 h1 h2]
  rfl

theorem sc1_C (t : Fin cfg0.N) (h0 : ¬t.val % 64 = 0) (h1 : ¬t.val < 32) (h2 : 32 ≤ t.val) :
    (outsAt0 m c t.val t.isLt).2.2.2.2.2.2.2.2 = ((outsAt0 m c (t.val - 1) (Nat.lt_of_le_of_lt (Nat.sub_le _ _) t.isLt)).2.2.2.2.2.2.2.2) := by
  rw [outsAt0_C m c t h0 h1 h2]
  rfl

/-- The queries at a point over the second input. -/
theorem o11_C (t : Fin cfg0.N) (h0 : ¬t.val % 64 = 0) (h1 : ¬t.val < 32) (h2 : 32 ≤ t.val) :
    (outsAt0 m c t.val t.isLt).2.1 = k0_pay14 (F := Ideal) (zt (iblk m c 1 t) (iblk m c 2 t) ((outsAt0 m c (t.val - 1) (Nat.lt_of_le_of_lt (Nat.sub_le _ _) t.isLt)).2.2.2.2.2.2.2.1)) := by
  rw [outsAt0_C m c t h0 h1 h2]
  frame_out
  simp only [sc0_read]
  rfl

/-- The keys at a point over the second input. -/
theorem o12_C (t : Fin cfg0.N) (h0 : ¬t.val % 64 = 0) (h1 : ¬t.val < 32) (h2 : 32 ≤ t.val) :
    (outsAt0 m c t.val t.isLt).2.2.1 = k0_pay15 (F := Ideal) (zt (iblk m c 1 t) (iblk m c 2 t) ((outsAt0 m c (t.val - 1) (Nat.lt_of_le_of_lt (Nat.sub_le _ _) t.isLt)).2.2.2.2.2.2.2.1)) := by
  rw [outsAt0_C m c t h0 h1 h2]
  frame_out
  simp only [sc0_read]
  rfl

/-- The values at a point over the second input. -/
theorem o13_C (t : Fin cfg0.N) (h0 : ¬t.val % 64 = 0) (h1 : ¬t.val < 32) (h2 : 32 ≤ t.val) :
    (outsAt0 m c t.val t.isLt).2.2.2.1 = k0_pay16 (F := Ideal) (zt (iblk m c 1 t) (iblk m c 2 t) ((outsAt0 m c (t.val - 1) (Nat.lt_of_le_of_lt (Nat.sub_le _ _) t.isLt)).2.2.2.2.2.2.2.1)) := by
  rw [outsAt0_C m c t h0 h1 h2]
  frame_out
  simp only [sc0_read]
  rfl

/-- The gated mix at a point over the second input. -/
theorem o10_C (t : Fin cfg0.N) (h0 : ¬t.val % 64 = 0) (h1 : ¬t.val < 32) (h2 : 32 ≤ t.val) (y : S1024x512.Idx) :
    (outsAt0 m c t.val t.isLt).1 y
      = gated (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) (y 0) (y 1) := by
  rw [outsAt0_C m c t h0 h1 h2]
  frame_out
  simp only [sc0_read, sc1_read]
  canon_tiles p k
  · exact piece_gated 896 384 6 7 slices_S1024x512_o896_384_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 896 256 4 5 slices_S1024x512_o896_256_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 896 128 2 3 slices_S1024x512_o896_128_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 896 0 0 1 slices_S1024x512_o896_0_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 768 384 6 7 slices_S1024x512_o768_384_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 768 256 4 5 slices_S1024x512_o768_256_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 768 128 2 3 slices_S1024x512_o768_128_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 768 0 0 1 slices_S1024x512_o768_0_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 640 384 6 7 slices_S1024x512_o640_384_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 640 256 4 5 slices_S1024x512_o640_256_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 640 128 2 3 slices_S1024x512_o640_128_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 640 0 0 1 slices_S1024x512_o640_0_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 512 384 6 7 slices_S1024x512_o512_384_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 512 256 4 5 slices_S1024x512_o512_256_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 512 128 2 3 slices_S1024x512_o512_128_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 512 0 0 1 slices_S1024x512_o512_0_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 384 384 6 7 slices_S1024x512_o384_384_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 384 256 4 5 slices_S1024x512_o384_256_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 384 128 2 3 slices_S1024x512_o384_128_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 384 0 0 1 slices_S1024x512_o384_0_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 256 384 6 7 slices_S1024x512_o256_384_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 256 256 4 5 slices_S1024x512_o256_256_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 256 128 2 3 slices_S1024x512_o256_128_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 256 0 0 1 slices_S1024x512_o256_0_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 128 384 6 7 slices_S1024x512_o128_384_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 128 256 4 5 slices_S1024x512_o128_256_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 128 128 2 3 slices_S1024x512_o128_128_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 128 0 0 1 slices_S1024x512_o128_0_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 0 384 6 7 slices_S1024x512_o0_384_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 0 256 4 5 slices_S1024x512_o0_256_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 0 128 2 3 slices_S1024x512_o0_128_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl
  · exact piece_gated 0 0 0 1 slices_S1024x512_o0_0_S128x128 (ut (iblk m c 1 t) (iblk m c 2 t) ((outsAt0 m c (t.val - 1) (Nat.lt_of_le_of_lt (Nat.sub_le _ _) t.isLt)).2.2.2.2.2.2.2.1)) (vt (iblk m c 1 t) (iblk m c 2 t) ((outsAt0 m c (t.val - 1) (Nat.lt_of_le_of_lt (Nat.sub_le _ _) t.isLt)).2.2.2.2.2.2.2.1) (iblk m c 4 t)) ((outsAt0 m c (t.val - 1) (Nat.lt_of_le_of_lt (Nat.sub_le _ _) t.isLt)).2.2.2.2.2.2.2.2) (iblk m c 6 t) _ _ _ (by omega) (by omega) (by omega) (by omega) (by omega) p y (by omega) (by omega) _ rfl

end Cert.Kernel3Ideal.Mix

end
-- ==== Proof.MixValue.lean ====
module

public import proofs.«01_k».proof.Proof.MixTile

/-! The kernel's four final arrays are the reference's results. -/

@[expose] public section

set_option maxRecDepth 16384

noncomputable section

open Idealize.ShloMosaic

namespace Cert.Kernel3Ideal.Mix

open Cert.Kernel3Ideal Cert.Kernel3Ideal.Gen Cert.Ffn Cert.Mix

variable (m : (ℓ : Loc nD τ sig) → Buf (Elt Ideal) ℓ) (c : Dev nD)

/-- The input weights as the first scratch carries them. -/
def Wm : FVec Ideal S1024x2560 .bf16 :=
  fun i => (m ((c.tc : Thread nD τ).loc main_arg3) : FVec Ideal S1x1024x2560 .f32) (ix3 0 (i 0) (i 1))

/-- The mixing weights as the second scratch carries them. -/
def Sm : FVec Ideal S8x128x128 .bf16 :=
  fun i => (m ((c.tc : Thread nD τ).loc main_arg5) : FVec Ideal S1x8x128x128 .f32) (ix4 0 (i 0) (i 1) (i 2))

theorem pay1_eq (t : Fin cfg0.N) : k0_pay1 (F := Ideal) (iblk m c 3 t) = Wm m c := by
  funext i
  idx_vars i
  refine Eq.trans ?_ (blk3 m c t _ _)
  pointwise [k0_pay1]

theorem pay2_eq (t : Fin cfg0.N) : k0_pay2 (F := Ideal) (iblk m c 5 t) = Sm m c := by
  funext i
  idx_vars i
  refine Eq.trans ?_ (blk5 m c t _ _ _)
  pointwise [k0_pay2]

/-- After every point the two scratches hold the weights. -/
theorem carried : ∀ (n : ℕ) (h : n < cfg0.N),
    (outsAt0 m c n h).2.2.2.2.2.2.2.1 = Wm m c ∧ (outsAt0 m c n h).2.2.2.2.2.2.2.2 = Sm m c := by
  intro n
  induction n with
  | zero =>
    intro h
    exact ⟨(sc0_A m c ⟨0, h⟩ rfl (Nat.zero_lt_succ _) (Nat.not_succ_le_zero _)).trans (pay1_eq m c _),
      (sc1_A m c ⟨0, h⟩ rfl (Nat.zero_lt_succ _) (Nat.not_succ_le_zero _)).trans (pay2_eq m c _)⟩
  | succ n ih =>
    intro h
    have hN : cfg0.N = 64 := rfl
    have h0 : ¬(n + 1) % 64 = 0 := by omega
    by_cases h1 : n + 1 < 32
    · exact ⟨(sc0_B m c ⟨n + 1, h⟩ h0 h1 (by dsimp only; omega)).trans (ih _).1,
        (sc1_B m c ⟨n + 1, h⟩ h0 h1 (by dsimp only; omega)).trans (ih _).2⟩
    · exact ⟨(sc0_C m c ⟨n + 1, h⟩ h0 h1 (by dsimp only; omega)).trans (ih _).1,
        (sc1_C m c ⟨n + 1, h⟩ h0 h1 (by dsimp only; omega)).trans (ih _).2⟩

/-- The rows of tokens a grid point works on. -/
def xblk (t : Fin cfg0.N) : FVec Ideal S1024x1024 .f32 := if t.val < 32 then iblk m c 0 t else iblk m c 1 t

theorem xblk_at (t : Fin cfg0.N) (r k : Fin 1024) :
    xblk m c t (ix2 r k) = rows m c (ix2 ⟨t.val * 1024 + r, by have := t.isLt; have : cfg0.N = 64 := rfl; omega⟩ k) := by
  unfold xblk
  by_cases h : t.val < 32
  · rw [if_pos h]
    exact blk0 m c t h r k
  · rw [if_neg h]
    exact blk1 m c t (by omega) r k

/-- The projected rows of a grid point. -/
def zb (t : Fin cfg0.N) : FVec Ideal S1024x2560 .f32 := zt (xblk m c t) (iblk m c 2 t) (Wm m c)

theorem o11 (t : Fin cfg0.N) : (outsAt0 m c t.val t.isLt).2.1 = k0_pay14 (F := Ideal) (zb m c t) := by
  have ht := t.isLt
  have hN : cfg0.N = 64 := rfl
  unfold zb xblk
  by_cases h1 : t.val < 32
  · rw [if_pos h1]
    by_cases h0 : t.val % 64 = 0
    · rw [o11_A m c t h0 h1 (by omega), pay1_eq]
    · rw [o11_B m c t h0 h1 (by omega), (carried m c _ _).1]
  · rw [if_neg h1, o11_C m c t (by omega) h1 (by omega), (carried m c _ _).1]

theorem o12 (t : Fin cfg0.N) : (outsAt0 m c t.val t.isLt).2.2.1 = k0_pay15 (F := Ideal) (zb m c t) := by
  have ht := t.isLt
  have hN : cfg0.N = 64 := rfl
  unfold zb xblk
  by_cases h1 : t.val < 32
  · rw [if_pos h1]
    by_cases h0 : t.val % 64 = 0
    · rw [o12_A m c t h0 h1 (by omega), pay1_eq]
    · rw [o12_B m c t h0 h1 (by omega), (carried m c _ _).1]
  · rw [if_neg h1, o12_C m c t (by omega) h1 (by omega), (carried m c _ _).1]

theorem o13 (t : Fin cfg0.N) : (outsAt0 m c t.val t.isLt).2.2.2.1 = k0_pay16 (F := Ideal) (zb m c t) := by
  have ht := t.isLt
  have hN : cfg0.N = 64 := rfl
  unfold zb xblk
  by_cases h1 : t.val < 32
  · rw [if_pos h1]
    by_cases h0 : t.val % 64 = 0
    · rw [o13_A m c t h0 h1 (by omega), pay1_eq]
    · rw [o13_B m c t h0 h1 (by omega), (carried m c _ _).1]
  · rw [if_neg h1, o13_C m c t (by omega) h1 (by omega), (carried m c _ _).1]

theorem o10 (t : Fin cfg0.N) (y : S1024x512.Idx) : (outsAt0 m c t.val t.isLt).1 y
    = gated (ut (xblk m c t) (iblk m c 2 t) (Wm m c)) (vt (xblk m c t) (iblk m c 2 t) (Wm m c) (iblk m c 4 t)) (Sm m c) (iblk m c 6 t) (y 0) (y 1) := by
  have ht := t.isLt
  have hN : cfg0.N = 64 := rfl
  unfold xblk
  by_cases h1 : t.val < 32
  · rw [if_pos h1]
    by_cases h0 : t.val % 64 = 0
    · rw [o10_A m c t h0 h1 (by omega) y, pay1_eq, pay2_eq]
    · rw [o10_B m c t h0 h1 (by omega) y, (carried m c _ _).1, (carried m c _ _).2]
  · rw [if_neg h1, o10_C m c t (by omega) h1 (by omega) y, (carried m c _ _).1, (carried m c _ _).2]

/-- The reference's projections over the kernel's arrays. -/
def ZR : FVec Ideal Cert.Reference3Ideal.S65536x2560 .f32 :=
  Cert.Reference3Ideal.Mix.zall (m ((c.tc : Thread nD τ).loc main_arg0) : FVec Ideal S2x16384x1024 .f32) (m ((c.tc : Thread nD τ).loc main_arg1) : FVec Ideal S8x4096x1024 .f32)
    (m ((c.tc : Thread nD τ).loc main_arg2) : FVec Ideal S1x1024 .f32) (m ((c.tc : Thread nD τ).loc main_arg3) : FVec Ideal S1x1024x2560 .f32)

/-- The reference's gated mix over the kernel's arrays. -/
def YA : FVec Ideal Cert.Reference3Ideal.S65536x512 .bf16 :=
  Cert.Reference3Ideal.Mix.ya (ZR m c) (m ((c.tc : Thread nD τ).loc main_arg4) : FVec Ideal S1x512 .f32)
    (m ((c.tc : Thread nD τ).loc main_arg5) : FVec Ideal S1x8x128x128 .f32) (m ((c.tc : Thread nD τ).loc main_arg6) : FVec Ideal S1x8x128 .f32)

theorem zb_at (t : Fin cfg0.N) (r : Fin 1024) (f : Fin 2560) :
    zb m c t (ix2 r f) = ZR m c (ix2 ⟨t.val * 1024 + r, by have := t.isLt; have : cfg0.N = 64 := rfl; omega⟩ f) := by
  rw [zb, zt_at, ZR, Cert.Reference3Ideal.Mix.zall_at]
  simp only [xblk_at, blk2]
  rfl

theorem q_ref (t : Fin cfg0.N) (r : Fin 1024) (j : Fin 512) :
    k0_pay14 (F := Ideal) (zb m c t) (ix2 r j)
      = Cert.Reference3Ideal.Mix.qs (ZR m c) (ix2 ⟨t.val * 1024 + r, by have := t.isLt; have : cfg0.N = 64 := rfl; omega⟩ j) := by
  rw [q_at, Cert.Reference3Ideal.Mix.qs_at, zb_at]

theorem k_ref (t : Fin cfg0.N) (r : Fin 1024) (j : Fin 512) :
    k0_pay15 (F := Ideal) (zb m c t) (ix2 r j)
      = Cert.Reference3Ideal.Mix.ks (ZR m c) (ix2 ⟨t.val * 1024 + r, by have := t.isLt; have : cfg0.N = 64 := rfl; omega⟩ j) := by
  rw [k_at, Cert.Reference3Ideal.Mix.ks_at, zb_at]

theorem v_ref (t : Fin cfg0.N) (r : Fin 1024) (j : Fin 512) :
    k0_pay16 (F := Ideal) (zb m c t) (ix2 r j)
      = Cert.Reference3Ideal.Mix.vs (ZR m c) (ix2 ⟨t.val * 1024 + r, by have := t.isLt; have : cfg0.N = 64 := rfl; omega⟩ j) := by
  rw [v_at, Cert.Reference3Ideal.Mix.vs_at, zb_at]

theorem y_ref (t : Fin cfg0.N) (r : Fin 1024) (j : Fin 512) :
    gated (ut (xblk m c t) (iblk m c 2 t) (Wm m c)) (vt (xblk m c t) (iblk m c 2 t) (Wm m c) (iblk m c 4 t)) (Sm m c) (iblk m c 6 t) r j
      = YA m c (ix2 ⟨t.val * 1024 + r, by have := t.isLt; have : cfg0.N = 64 := rfl; omega⟩ j) := by
  have ht := t.isLt
  have hN : cfg0.N = 64 := rfl
  have hz : zt (xblk m c t) (iblk m c 2 t) (Wm m c) = zb m c t := rfl
  have e1 : ∀ h, (⟨(t.val * 1024 + r.val) % 128, h⟩ : Fin 128) = ⟨r.val % 128, by omega⟩ := fun _ => Fin.ext (by dsimp only; omega)
  have e2 : ∀ (s : Fin 128) h, (⟨(t.val * 1024 + r.val) / 128 * 128 + s.val, h⟩ : Fin 65536) = ⟨t.val * 1024 + (r.val / 128 * 128 + s.val), by omega⟩ :=
    fun _ _ => Fin.ext (by dsimp only; omega)
  rw [gated, YA, Cert.Reference3Ideal.Mix.ya_at]
  simp only [ut_at, vt_at, hz, zb_at, blk4, blk6, e1, e2]
  rfl

/-- The first final array is the reference's gated mix. -/
theorem final10 : (dats m 0 c).arrAt 10 (cfgs 0).N = YA m c := by
  refine (dats m 0 c).arrAt_eq_of_covers 10 _ (by decide +kernel) fun t _ y => ?_
  blk_simp
  rw [after0_10]
  refine (o10 m c t y).trans ?_
  refine (y_ref m c t (y 0) (y 1)).trans ?_
  blk_ext [idx t]

/-- The second final array is the reference's queries. -/
theorem final11 : (dats m 0 c).arrAt 11 (cfgs 0).N = Cert.Reference3Ideal.Mix.qs (ZR m c) := by
  refine (dats m 0 c).arrAt_eq_of_covers 11 _ (by decide +kernel) fun t _ y => ?_
  blk_simp
  rw [after0_11, o11]
  idx_vars y
  refine (q_ref m c t _ _).trans ?_
  blk_ext [idx t]

/-- The third final array is the reference's keys. -/
theorem final12 : (dats m 0 c).arrAt 12 (cfgs 0).N = Cert.Reference3Ideal.Mix.ks (ZR m c) := by
  refine (dats m 0 c).arrAt_eq_of_covers 12 _ (by decide +kernel) fun t _ y => ?_
  blk_simp
  rw [after0_12, o12]
  idx_vars y
  refine (k_ref m c t _ _).trans ?_
  blk_ext [idx t]

/-- The fourth final array is the reference's values. -/
theorem final13 : (dats m 0 c).arrAt 13 (cfgs 0).N = Cert.Reference3Ideal.Mix.vs (ZR m c) := by
  refine (dats m 0 c).arrAt_eq_of_covers 13 _ (by decide +kernel) fun t _ y => ?_
  blk_simp
  rw [after0_13, o13]
  idx_vars y
  refine (v_ref m c t _ _).trans ?_
  blk_ext [idx t]

end Cert.Kernel3Ideal.Mix

end
-- ==== Proof.MixClaim.lean ====
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.MixValue
public import Idealize.ShloMosaic.Lib.Claim

/-! The opening half of the layer on both batches: kernel and reference have the same four results, and
the frames of the three programs. -/

@[expose] public section

set_option maxRecDepth 16384

noncomputable section

open Idealize.ShloMosaic Idealize.SL.Sem

namespace Cert.Kernel3Ideal.Mix

theorem algebraic : Cert.algebraic_Kernel3Ideal_Reference3Ideal (hKernel3Ideal := Cert.Kernel3Ideal.Gen.facts) (hReference3Ideal := Cert.Reference3Ideal.Gen.facts) := by
  intro m g m' g' _ hagree
  refine ⟨fun c => YA m c, fun c => Cert.Reference3Ideal.Mix.qs (ZR m c), fun c => Cert.Reference3Ideal.Mix.ks (ZR m c), fun c => Cert.Reference3Ideal.Mix.vs (ZR m c), ?_, ?_⟩
  · refine θ_run_mono (θ_run_and (run_main m g) (unchanged m g)) fun r hr c => ?_
    exact ⟨((hr.1 c).1 10).trans (final10 m c), ((hr.1 c).1 11).trans (final11 m c), ((hr.1 c).1 12).trans (final12 m c),
      ((hr.1 c).1 13).trans (final13 m c), hr.2 c⟩
  · refine θ_run_mono (Cert.Reference3Ideal.Value.run m' g') fun r hr c => ?_
    obtain ⟨h0, h1, h2, h3, h4, h5, h6, h7, h8, h9⟩ := hagree c
    have hz : Cert.Reference3Ideal.Mix.zall (m' ((c.tc : Thread _ _).loc Cert.Reference3Ideal.main_arg0)) (m' ((c.tc : Thread _ _).loc Cert.Reference3Ideal.main_arg1))
        (m' ((c.tc : Thread _ _).loc Cert.Reference3Ideal.main_arg2)) (m' ((c.tc : Thread _ _).loc Cert.Reference3Ideal.main_arg3)) = ZR m c := by
      rw [h0, h1, h2, h3]
      rfl
    refine ⟨(hr c).1.trans ?_, (hr c).2.1.trans ?_, (hr c).2.2.1.trans ?_, (hr c).2.2.2.1.trans ?_, (hr c).2.2.2.2⟩
    · rw [Cert.Reference3Ideal.Mix.res_eq, hz, h4, h5, h6]
      rfl
    · exact congrArg Cert.Reference3Ideal.Mix.qs hz
    · exact congrArg Cert.Reference3Ideal.Mix.ks hz
    · exact congrArg Cert.Reference3Ideal.Mix.vs hz

/-- The kernel over extended reals runs and leaves its arguments unchanged, every counter at zero. -/
theorem frame_ideal : Cert.quiescent_Kernel3Ideal (hKernel3Ideal := Cert.Kernel3Ideal.Gen.facts) := fun m ρ _ =>
  frame (F := Ideal) m ρ

set_option smartUnfolding false in
set_option maxHeartbeats 4000000 in
/-- The kernel as printed has the same text, so its frame is the same run over bit patterns. -/
theorem frame_kernel : Cert.quiescent_Kernel3 (hKernel3 := Cert.Kernel3.Gen.facts) := fun m ρ _ =>
  frame (F := Bits) m ρ

/-- The reference runs, leaves its arguments unchanged, and has no counters that could end other than zero. -/
theorem frame_reference : Cert.quiescent_Reference3Ideal (hReference3Ideal := Cert.Reference3Ideal.Gen.facts) := fun m ρ _ =>
  θ_run_mono (Cert.Reference3Ideal.Value.run m ρ) fun _ h => ⟨fun c => (h c).2.2.2.2, sem_eq_zero_of_no_sems (by decide) _⟩

end Cert.Kernel3Ideal.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.ReferenceIdeal.Run
public import proofs.«01_k».proof.Proof.Gen.Reference2Ideal.Run
public import proofs.«01_k».proof.Proof.Gen.Reference3Ideal.Run
public import proofs.«01_k».proof.Proof.FfnClaim
public import proofs.«01_k».proof.Proof.FfnClaim2
public import proofs.«01_k».proof.Proof.MixClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, by
  exact ⟨fun m ρ _ => Cert.Kernel.Gen.frame m ρ, fun m ρ _ => Cert.KernelIdeal.Gen.frame m ρ, Cert.KernelIdeal.Ffn.frame_reference, fun m ρ _ => Cert.Kernel2.Gen.frame m ρ, fun m ρ _ => Cert.Kernel2Ideal.Gen.frame m ρ, Cert.Kernel2Ideal.Ffn.frame_reference,
    Cert.Kernel3Ideal.Mix.frame_kernel, Cert.Kernel3Ideal.Mix.frame_ideal, Cert.Kernel3Ideal.Mix.frame_reference, trivial, Cert.KernelIdeal.Ffn.algebraic, trivial, Cert.Kernel2Ideal.Ffn.algebraic, trivial, Cert.Kernel3Ideal.Mix.algebraic⟩⟩

end Cert.Proof

end
